-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "big" .f32 0x7F61B1E6#32 ⊤
  ∧ IdealRules.named_const.Statement Cert.KernelIdeal.κ "inv_pix" .f32 0x39A72F05#32 ((1 / 3136 : ℝ) : EReal)
  ∧ IdealRules.named_const.Statement Cert.KernelIdeal.κ "inv_out" .f32 0x3791A2B4#32 ((1 / 57600 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v282) = v0 c
          ∧ r.2.mem ((c.tc : Thread Cert.ReferenceIdeal.nD Cert.ReferenceIdeal.τ).loc Cert.ReferenceIdeal.main_v256) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S17x4x192x56x56 : Shape := ⟨5, ![17, 4, 192, 56, 56]⟩
abbrev S1x3136 : Shape := ⟨2, ![1, 3136]⟩
abbrev S17x4x192x3136 : Shape := ⟨4, ![17, 4, 192, 3136]⟩
abbrev S10x4x3136 : Shape := ⟨3, ![10, 4, 3136]⟩
abbrev S1x4x192x3136 : Shape := ⟨4, ![1, 4, 192, 3136]⟩
abbrev S1x4x3136 : Shape := ⟨3, ![1, 4, 3136]⟩
abbrev S8x128 : Shape := ⟨2, ![8, 128]⟩
abbrev S1x1x192x3136 : Shape := ⟨4, ![1, 1, 192, 3136]⟩
abbrev S192x3136 : Shape := ⟨2, ![192, 3136]⟩
abbrev S192 : Shape := ⟨1, ![192]⟩
abbrev S192x1 : Shape := ⟨2, ![192, 1]⟩
abbrev S1x192x1 : Shape := ⟨3, ![1, 192, 1]⟩
abbrev S1 : Shape := ⟨1, ![1]⟩
abbrev S1x1x1 : Shape := ⟨3, ![1, 1, 1]⟩
abbrev S1x1 : Shape := ⟨2, ![1, 1]⟩
abbrev S3136 : Shape := ⟨1, ![3136]⟩
abbrev S1x1x3136 : Shape := ⟨3, ![1, 1, 3136]⟩
abbrev S10x4x56x56 : Shape := ⟨4, ![10, 4, 56, 56]⟩
abbrev S_ : Shape := ⟨0, ![]⟩
abbrev S240 : Shape := ⟨1, ![240]⟩
abbrev S56 : Shape := ⟨1, ![56]⟩
abbrev S1x240 : Shape := ⟨2, ![1, 240]⟩
abbrev S56x1 : Shape := ⟨2, ![56, 1]⟩
abbrev S56x240 : Shape := ⟨2, ![56, 240]⟩
abbrev S240x56 : Shape := ⟨2, ![240, 56]⟩
abbrev S5x240x240 : Shape := ⟨3, ![5, 240, 240]⟩
abbrev S240x240 : Shape := ⟨2, ![240, 240]⟩
abbrev S1x1x56x56 : Shape := ⟨4, ![1, 1, 56, 56]⟩
abbrev S56x56 : Shape := ⟨2, ![56, 56]⟩
abbrev S1x240x240 : Shape := ⟨3, ![1, 240, 240]⟩
abbrev S1x5x240x240 : Shape := ⟨4, ![1, 5, 240, 240]⟩

abbrev nBuf : Space → Nat
  | .hbm => 79
  | .vmem => 12
  | .smem => 0
  | _ => 0

abbrev bufTy : (tb : Table) → Fin (tcTables nBuf tb) → BufTy
  | .hbm, ⟨0, _⟩ => ⟨S17x4x192x56x56, .f32⟩
  | .hbm, ⟨1, _⟩ => ⟨S1x3136, .f32⟩
  | .hbm, ⟨2, _⟩ => ⟨S1x3136, .f32⟩
  | .hbm, ⟨3, _⟩ => ⟨S17x4x192x3136, .f32⟩
  | .hbm, ⟨4, _⟩ => ⟨S10x4x3136, .f32⟩
  | .hbm, ⟨5, _⟩ => ⟨S10x4x56x56, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S240, .f32⟩
  | .hbm, ⟨10, _⟩ => ⟨S_, .f32⟩
  | .hbm, ⟨11, _⟩ => ⟨S240, .f32⟩
  | .hbm, ⟨12, _⟩ => ⟨S240, .f32⟩
  | .hbm, ⟨13, _⟩ => ⟨S_, .f32⟩
  | .hbm, ⟨14, _⟩ => ⟨S240, .f32⟩
  | .hbm, ⟨15, _⟩ => ⟨S240, .f32⟩
  | .hbm, ⟨16, _⟩ => ⟨S_, .f32⟩
  | .hbm, ⟨17, _⟩ => ⟨S240, .f32⟩
  | .hbm, ⟨18, _⟩ => ⟨S240, .f32⟩
  | .hbm, ⟨19, _⟩ => ⟨S_, .f32⟩
  | .hbm, ⟨20, _⟩ => ⟨S240, .f32⟩
  | .hbm, ⟨21, _⟩ => ⟨S240, .f32⟩
  | .hbm, ⟨22, _⟩ => ⟨S56, .f32⟩
  | .hbm, ⟨23, _⟩ => ⟨S1x240, .f32⟩
  | .hbm, ⟨24, _⟩ => ⟨S56x1, .f32⟩
  | .hbm, ⟨25, _⟩ => ⟨S56x240, .f32⟩
  | .hbm, ⟨26, _⟩ => ⟨S56x240, .f32⟩
  | .hbm, ⟨27, _⟩ => ⟨S56x240, .f32⟩
  | .hbm, ⟨28, _⟩ => ⟨S56x240, .f32⟩
  | .hbm, ⟨29, _⟩ => ⟨S_, .f32⟩
  | .hbm, ⟨30, _⟩ => ⟨S56x240, .f32⟩
  | .hbm, ⟨31, _⟩ => ⟨S56x240, .f32⟩
  | .hbm, ⟨32, _⟩ => ⟨S56x240, .f32⟩
  | .hbm, ⟨33, _⟩ => ⟨S_, .f32⟩
  | .hbm, ⟨34, _⟩ => ⟨S56x240, .f32⟩
  | .hbm, ⟨35, _⟩ => ⟨S56x240, .f32⟩
  | .hbm, ⟨36, _⟩ => ⟨S_, .f32⟩
  | .hbm, ⟨37, _⟩ => ⟨S56x240, .f32⟩
  | .hbm, ⟨38, _⟩ => ⟨S56x240, .f32⟩
  | .hbm, ⟨39, _⟩ => ⟨S_, .f32⟩
  | .hbm, ⟨40, _⟩ => ⟨S240, .f32⟩
  | .hbm, ⟨41, _⟩ => ⟨S1x240, .f32⟩
  | .hbm, ⟨42, _⟩ => ⟨S1x240, .f32⟩
  | .hbm, ⟨43, _⟩ => ⟨S_, .f32⟩
  | .hbm, ⟨44, _⟩ => ⟨S1x240, .f32⟩
  | .hbm, ⟨45, _⟩ => ⟨S1x240, .i1⟩
  | .hbm, ⟨46, _⟩ => ⟨S_, .f32⟩
  | .hbm, ⟨47, _⟩ => ⟨S1x240, .f32⟩
  | .hbm, ⟨48, _⟩ => ⟨S1x240, .i1⟩
  | .hbm, ⟨49, _⟩ => ⟨S_, .i32⟩
  | .hbm, ⟨50, _⟩ => ⟨S_, .f32⟩
  | .hbm, ⟨51, _⟩ => ⟨S1x240, .f32⟩
  | .hbm, ⟨52, _⟩ => ⟨S1x240, .f32⟩
  | .hbm, ⟨53, _⟩ => ⟨S56x240, .f32⟩
  | .hbm, ⟨54, _⟩ => ⟨S56x240, .f32⟩
  | .hbm, ⟨55, _⟩ => ⟨S_, .i32⟩
  | .hbm, ⟨56, _⟩ => ⟨S_, .f32⟩
  | .hbm, ⟨57, _⟩ => ⟨S56x240, .i1⟩
  | .hbm, ⟨58, _⟩ => ⟨S56x240, .f32⟩
  | .hbm, ⟨59, _⟩ => ⟨S56x240, .f32⟩
  | .hbm, ⟨60, _⟩ => ⟨S_, .f32⟩
  | .hbm, ⟨61, _⟩ => ⟨S240, .f32⟩
  | .hbm, ⟨62, _⟩ => ⟨S240, .i1⟩
  | .hbm, ⟨63, _⟩ => ⟨S_, .f32⟩
  | .hbm, ⟨64, _⟩ => ⟨S240, .f32⟩
  | .hbm, ⟨65, _⟩ => ⟨S240, .i1⟩
  | .hbm, ⟨66, _⟩ => ⟨S240, .i1⟩
  | .hbm, ⟨67, _⟩ => ⟨S1x240, .i1⟩
  | .hbm, ⟨68, _⟩ => ⟨S_, .i32⟩
  | .hbm, ⟨69, _⟩ => ⟨S_, .f32⟩
  | .hbm, ⟨70, _⟩ => ⟨S56x240, .i1⟩
  | .hbm, ⟨71, _⟩ => ⟨S56x240, .f32⟩
  | .hbm, ⟨72, _⟩ => ⟨S56x240, .f32⟩
  | .hbm, ⟨73, _⟩ => ⟨S240x56, .f32⟩
  | .hbm, ⟨74, _⟩ => ⟨S56x240, .f32⟩
  | .hbm, ⟨75, _⟩ => ⟨S5x240x240, .f32⟩
  | .hbm, ⟨76, _⟩ => ⟨S240x240, .f32⟩
  | .hbm, ⟨77, _⟩ => ⟨S1x240x240, .f32⟩
  | .hbm, ⟨78, _⟩ => ⟨S1x5x240x240, .f32⟩
  | .local _ .vmem, ⟨0, _⟩ => ⟨S1x4x192x3136, .f32⟩
  | .local _ .vmem, ⟨1, _⟩ => ⟨S1x4x192x3136, .f32⟩
  | .local _ .vmem, ⟨2, _⟩ => ⟨S1x3136, .f32⟩
  | .local _ .vmem, ⟨3, _⟩ => ⟨S1x3136, .f32⟩
  | .local _ .vmem, ⟨4, _⟩ => ⟨S1x4x3136, .f32⟩
  | .local _ .vmem, ⟨5, _⟩ => ⟨S1x4x3136, .f32⟩
  | .local _ .vmem, ⟨6, _⟩ => ⟨S8x128, .f32⟩
  | .local _ .vmem, ⟨7, _⟩ => ⟨S10x4x56x56, .f32⟩
  | .local _ .vmem, ⟨8, _⟩ => ⟨S240x56, .f32⟩
  | .local _ .vmem, ⟨9, _⟩ => ⟨S56x240, .f32⟩
  | .local _ .vmem, ⟨10, _⟩ => ⟨S5x240x240, .f32⟩
  | .local _ .vmem, ⟨11, _⟩ => ⟨S240x240, .f32⟩
  | _, _ => ⟨S17x4x192x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_cst_2 : Ref sig .tc := ⟨.hbm, 7, rfl⟩
abbrev main_v3 : Ref sig .tc := ⟨.hbm, 8, rfl⟩
abbrev main_v4 : Ref sig .tc := ⟨.hbm, 9, rfl⟩
abbrev main_cst_3 : Ref sig .tc := ⟨.hbm, 10, rfl⟩
abbrev main_v5 : Ref sig .tc := ⟨.hbm, 11, rfl⟩
abbrev main_v6 : Ref sig .tc := ⟨.hbm, 12, rfl⟩
abbrev main_cst_4 : Ref sig .tc := ⟨.hbm, 13, rfl⟩
abbrev main_v7 : Ref sig .tc := ⟨.hbm, 14, rfl⟩
abbrev main_v8 : Ref sig .tc := ⟨.hbm, 15, rfl⟩
abbrev main_cst_5 : Ref sig .tc := ⟨.hbm, 16, rfl⟩
abbrev main_v9 : Ref sig .tc := ⟨.hbm, 17, rfl⟩
abbrev main_v10 : Ref sig .tc := ⟨.hbm, 18, rfl⟩
abbrev main_cst_6 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_7 : Ref sig .tc := ⟨.hbm, 33, rfl⟩
abbrev main_v24 : Ref sig .tc := ⟨.hbm, 34, rfl⟩
abbrev main_v25 : Ref sig .tc := ⟨.hbm, 35, rfl⟩
abbrev main_cst_8 : Ref sig .tc := ⟨.hbm, 36, rfl⟩
abbrev main_v26 : Ref sig .tc := ⟨.hbm, 37, rfl⟩
abbrev main_v27 : Ref sig .tc := ⟨.hbm, 38, rfl⟩
abbrev main_cst_9 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_10 : Ref sig .tc := ⟨.hbm, 43, rfl⟩
abbrev main_v31 : Ref sig .tc := ⟨.hbm, 44, rfl⟩
abbrev main_v32 : Ref sig .tc := ⟨.hbm, 45, rfl⟩
abbrev main_cst_11 : Ref sig .tc := ⟨.hbm, 46, rfl⟩
abbrev main_v33 : Ref sig .tc := ⟨.hbm, 47, rfl⟩
abbrev main_v34 : Ref sig .tc := ⟨.hbm, 48, rfl⟩
abbrev main_c : Ref sig .tc := ⟨.hbm, 49, rfl⟩
abbrev main_call0_v0 : Ref sig .tc := ⟨.hbm, 50, rfl⟩
abbrev main_call0_v1 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_12 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v38 : Ref sig .tc := ⟨.hbm, 59, rfl⟩
abbrev main_cst_13 : Ref sig .tc := ⟨.hbm, 60, rfl⟩
abbrev main_v39 : Ref sig .tc := ⟨.hbm, 61, rfl⟩
abbrev main_v40 : Ref sig .tc := ⟨.hbm, 62, rfl⟩
abbrev main_cst_14 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_15 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48_0 : Ref sig .tc := ⟨.hbm, 75, rfl⟩
abbrev main_v48_1 : Ref sig .tc := ⟨.hbm, 76, rfl⟩
abbrev main_v49 : Ref sig .tc := ⟨.hbm, 77, rfl⟩
abbrev main_v50 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli c3_i32 v16
  let c3_i32_4 : BitVec 32 := 3#32
  let v18 : BitVec 32 := Scalar.addi v17 c3_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c0_i32_11 : BitVec 32 := 0#32
  let c0_i32_12 : BitVec 32 := 0#32
  let c0_i32_13 : BitVec 32 := 0#32
  let c0_i32_14 : BitVec 32 := 0#32
  ![v29.toNat, c0_i32_11.toNat, c0_i32_12.toNat, c0_i32_13.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x192x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3136 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3136 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4x3136 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

abbrev stage1_0 : Fin 1 → Memref sig .tc .vmem S10x4x56x56 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S240x56 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S56x240 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S5x240x240 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S240x240 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== KernelIdeal.lean ====
variable {F : FTy → Type} [FloatOps F] [Named F]
def κ : String → Option EReal := fun
  | "big" => some ⊤
  | "inv_out" => some ((1 / 57600 : ℝ) : EReal)
  | "inv_pix" => some ((1 / 3136 : ℝ) : EReal)
  | _ => none
-- ==== ReferenceIdeal.lean ====
abbrev S17x4x192x56x56 : Shape := ⟨5, ![17, 4, 192, 56, 56]⟩
abbrev S15x4x192x56x56 : Shape := ⟨5, ![15, 4, 192, 56, 56]⟩
abbrev S5x3x4x192x3136 : Shape := ⟨5, ![5, 3, 4, 192, 3136]⟩
abbrev S5x2x4x192x3136 : Shape := ⟨5, ![5, 2, 4, 192, 3136]⟩
abbrev S10x4x192x56x56 : Shape := ⟨5, ![10, 4, 192, 56, 56]⟩
abbrev S10x4x192x54x54 : Shape := ⟨5, ![10, 4, 192, 54, 54]⟩
abbrev S_ : Shape := ⟨0, ![]⟩
abbrev S10x4x192x3136 : Shape := ⟨4, ![10, 4, 192, 3136]⟩
abbrev S10x4x192 : Shape := ⟨3, ![10, 4, 192]⟩
abbrev S10x4x192x1 : Shape := ⟨4, ![10, 4, 192, 1]⟩
abbrev S10 : Shape := ⟨1, ![10]⟩
abbrev S11 : Shape := ⟨1, ![11]⟩
abbrev S11x1 : Shape := ⟨2, ![11, 1]⟩
abbrev S1x10 : Shape := ⟨2, ![1, 10]⟩
abbrev S11x10 : Shape := ⟨2, ![11, 10]⟩
abbrev S12x10 : Shape := ⟨2, ![12, 10]⟩
abbrev S12x10x1x1x1 : Shape := ⟨5, ![12, 10, 1, 1, 1]⟩
abbrev S1x10x4x192x3136 : Shape := ⟨5, ![1, 10, 4, 192, 3136]⟩
abbrev S12x10x4x192x3136 : Shape := ⟨5, ![12, 10, 4, 192, 3136]⟩
abbrev S10x4x192x3136x1 : Shape := ⟨5, ![10, 4, 192, 3136, 1]⟩
abbrev S1x1x1x1x11 : Shape := ⟨5, ![1, 1, 1, 1, 11]⟩
abbrev S10x4x192x3136x11 : Shape := ⟨5, ![10, 4, 192, 3136, 11]⟩
abbrev S10x4x192x11 : Shape := ⟨4, ![10, 4, 192, 11]⟩
abbrev S10x4x192x52x52 : Shape := ⟨5, ![10, 4, 192, 52, 52]⟩
abbrev S10x4x56x56 : Shape := ⟨4, ![10, 4, 56, 56]⟩
abbrev S240 : Shape := ⟨1, ![240]⟩
abbrev S56 : Shape := ⟨1, ![56]⟩
abbrev S1x240 : Shape := ⟨2, ![1, 240]⟩
abbrev S56x1 : Shape := ⟨2, ![56, 1]⟩
abbrev S56x240 : Shape := ⟨2, ![56, 240]⟩
abbrev S240x10x4x56 : Shape := ⟨4, ![240, 10, 4, 56]⟩
abbrev S240x10x4x240 : Shape := ⟨4, ![240, 10, 4, 240]⟩
abbrev S10x4x240x240 : Shape := ⟨4, ![10, 4, 240, 240]⟩
abbrev S5x8x57600 : Shape := ⟨3, ![5, 8, 57600]⟩
abbrev S5x8 : Shape := ⟨2, ![5, 8]⟩
abbrev S5x8x1 : Shape := ⟨3, ![5, 8, 1]⟩
abbrev S5x57600 : Shape := ⟨2, ![5, 57600]⟩
abbrev S5 : Shape := ⟨1, ![5]⟩
abbrev S5x1 : Shape := ⟨2, ![5, 1]⟩
abbrev S1x5x240x240 : Shape := ⟨4, ![1, 5, 240, 240]⟩
abbrev S1x240x240 : Shape := ⟨3, ![1, 240, 240]⟩
abbrev S1x57600 : Shape := ⟨2, ![1, 57600]⟩
abbrev S1 : Shape := ⟨1, ![1]⟩
abbrev S1x1 : Shape := ⟨2, ![1, 1]⟩

abbrev nBuf : Space → Nat
  | .hbm => 436
  | .vmem => 0
  | .smem => 0
  | _ => 0

abbrev hbmTy0_0 (i : Nat) : BufTy := match i % 128 with
  | 0 => ⟨S17x4x192x56x56, .f32⟩
  | 1 => ⟨S15x4x192x56x56, .f32⟩
  | 2 => ⟨S5x3x4x192x3136, .f32⟩
  | 3 => ⟨S5x2x4x192x3136, .f32⟩
  | 4 => ⟨S10x4x192x56x56, .f32⟩
  | 5 => ⟨S10x4x192x54x54, .f32⟩
  | 6 => ⟨S_, .f32⟩
  | 7 => ⟨S10x4x192x56x56, .f32⟩
  | 8 => ⟨S10x4x192x3136, .f32⟩
  | 9 => ⟨S_, .f32⟩
  | 10 => ⟨S10x4x192, .f32⟩
  | 11 => ⟨S10x4x192x1, .f32⟩
  | 12 => ⟨S_, .f32⟩
  | 13 => ⟨S10x4x192, .f32⟩
  | 14 => ⟨S10x4x192x1, .f32⟩
  | 15 => ⟨S10x4x192x3136, .f32⟩
  | 16 => ⟨S10x4x192x3136, .f32⟩
  | 17 => ⟨S10x4x192x1, .f32⟩
  | 18 => ⟨S_, .f32⟩
  | 19 => ⟨S10x4x192x1, .f32⟩
  | 20 => ⟨S10x4x192x1, .f32⟩
  | 21 => ⟨S10x4x192x3136, .f32⟩
  | 22 => ⟨S10x4x192x3136, .f32⟩
  | 23 => ⟨S_, .f32⟩
  | 24 => ⟨S10x4x192x3136, .f32⟩
  | 25 => ⟨S10x4x192x3136, .f32⟩
  | 26 => ⟨S_, .f32⟩
  | 27 => ⟨S10, .f32⟩
  | 28 => ⟨S_, .f32⟩
  | 29 => ⟨S10, .f32⟩
  | 30 => ⟨S10, .f32⟩
  | 31 => ⟨S_, .f32⟩
  | 32 => ⟨S10, .f32⟩
  | 33 => ⟨S10, .f32⟩
  | 34 => ⟨S11, .f32⟩
  | 35 => ⟨S11x1, .f32⟩
  | 36 => ⟨S_, .f32⟩
  | 37 => ⟨S11x1, .f32⟩
  | 38 => ⟨S11x1, .f32⟩
  | 39 => ⟨S1x10, .f32⟩
  | 40 => ⟨S_, .f32⟩
  | 41 => ⟨S11x1, .f32⟩
  | 42 => ⟨S11x1, .f32⟩
  | 43 => ⟨S11x10, .f32⟩
  | 44 => ⟨S11x10, .f32⟩
  | 45 => ⟨S11x10, .f32⟩
  | 46 => ⟨S1x10, .f32⟩
  | 47 => ⟨S11x10, .f32⟩
  | 48 => ⟨S11x10, .f32⟩
  | 49 => ⟨S11x10, .f32⟩
  | 50 => ⟨S11x10, .f32⟩
  | 51 => ⟨S1x10, .f32⟩
  | 52 => ⟨S12x10, .f32⟩
  | 53 => ⟨S12x10x1x1x1, .f32⟩
  | 54 => ⟨S1x10x4x192x3136, .f32⟩
  | 55 => ⟨S12x10x4x192x3136, .f32⟩
  | 56 => ⟨S12x10x4x192x3136, .f32⟩
  | 57 => ⟨S12x10x4x192x3136, .i1⟩
  | 58 => ⟨S_, .f32⟩
  | 59 => ⟨S_, .f32⟩
  | 60 => ⟨S12x10x4x192x3136, .f32⟩
  | 61 => ⟨S12x10x4x192x3136, .f32⟩
  | 62 => ⟨S12x10x4x192x3136, .f32⟩
  | 63 => ⟨S12x10x4x192x3136, .f32⟩
  | 64 => ⟨S_, .f32⟩
  | 65 => ⟨S10x4x192x3136, .f32⟩
  | 66 => ⟨S_, .f32⟩
  | 67 => ⟨S10x4x192x3136, .f32⟩
  | 68 => ⟨S10x4x192x3136, .f32⟩
  | 69 => ⟨S_, .f32⟩
  | 70 => ⟨S_, .f32⟩
  | 71 => ⟨S_, .f32⟩
  | 72 => ⟨S10x4x192x3136, .f32⟩
  | 73 => ⟨S10x4x192x3136, .f32⟩
  | 74 => ⟨S_, .f32⟩
  | 75 => ⟨S10x4x192x3136, .f32⟩
  | 76 => ⟨S10x4x192x3136, .f32⟩
  | 77 => ⟨S10x4x192x3136x1, .f32⟩
  | 78 => ⟨S11, .f32⟩
  | 79 => ⟨S1x1x1x1x11, .f32⟩
  | 80 => ⟨S10x4x192x3136x11, .f32⟩
  | 81 => ⟨S10x4x192x3136x11, .f32⟩
  | 82 => ⟨S10x4x192x3136x11, .i1⟩
  | 83 => ⟨S_, .f32⟩
  | 84 => ⟨S_, .f32⟩
  | 85 => ⟨S10x4x192x3136x11, .f32⟩
  | 86 => ⟨S10x4x192x3136x11, .f32⟩
  | 87 => ⟨S10x4x192x3136x11, .f32⟩
  | 88 => ⟨S10x4x192x3136x11, .f32⟩
  | 89 => ⟨S_, .f32⟩
  | 90 => ⟨S10x4x192x11, .f32⟩
  | 91 => ⟨S_, .f32⟩
  | 92 => ⟨S10x4x192, .f32⟩
  | 93 => ⟨S10x4x192x1, .f32⟩
  | 94 => ⟨S10x4x192x11, .f32⟩
  | 95 => ⟨S10x4x192x11, .f32⟩
  | 96 => ⟨S_, .f32⟩
  | 97 => ⟨S10x4x192x11, .f32⟩
  | 98 => ⟨S10x4x192x11, .f32⟩
  | 99 => ⟨S10x4x192x11, .f32⟩
  | 100 => ⟨S10x4x192x11, .f32⟩
  | 101 => ⟨S_, .f32⟩
  | 102 => ⟨S10x4x192x3136, .f32⟩
  | 103 => ⟨S10x4x192x3136, .f32⟩
  | 104 => ⟨S_, .f32⟩
  | 105 => ⟨S10x4x192x3136, .f32⟩
  | 106 => ⟨S10x4x192x3136, .f32⟩
  | 107 => ⟨S10x4x192x3136, .i32⟩
  | 108 => ⟨S_, .i32⟩
  | 109 => ⟨S_, .i32⟩
  | 110 => ⟨S_, .i32⟩
  | 111 => ⟨S10x4x192x3136, .i32⟩
  | 112 => ⟨S10x4x192x3136, .i32⟩
  | 113 => ⟨S_, .i32⟩
  | 114 => ⟨S10x4x192x3136, .i32⟩
  | 115 => ⟨S10x4x192x3136, .i32⟩
  | 116 => ⟨S_, .i32⟩
  | 117 => ⟨S10x4x192x3136, .i32⟩
  | 118 => ⟨S10x4x192x3136, .i1⟩
  | 119 => ⟨S_, .i32⟩
  | 120 => ⟨S10x4x192x3136, .i32⟩
  | 121 => ⟨S10x4x192x3136, .i32⟩
  | 122 => ⟨S10x4x192x3136, .i32⟩
  | 123 => ⟨S10x4x192x3136x1, .i32⟩
  | 124 => ⟨S10x4x192x3136, .f32⟩
  | 125 => ⟨S_, .f32⟩
  | 126 => ⟨S10x4x192, .f32⟩
  | 127 => ⟨S10x4x192x1, .f32⟩
  | _ => ⟨S17x4x192x56x56, .f32⟩

abbrev hbmTy0_1 (i : Nat) : BufTy := match i % 128 with
  | 0 => ⟨S_, .f32⟩
  | 1 => ⟨S10x4x192, .f32⟩
  | 2 => ⟨S10x4x192x1, .f32⟩
  | 3 => ⟨S10x4x192x3136, .f32⟩
  | 4 => ⟨S10x4x192x3136, .f32⟩
  | 5 => ⟨S10x4x192x1, .f32⟩
  | 6 => ⟨S_, .f32⟩
  | 7 => ⟨S10x4x192x1, .f32⟩
  | 8 => ⟨S10x4x192x1, .f32⟩
  | 9 => ⟨S10x4x192x3136, .f32⟩
  | 10 => ⟨S10x4x192x3136, .f32⟩
  | 11 => ⟨S_, .f32⟩
  | 12 => ⟨S10x4x192, .f32⟩
  | 13 => ⟨S10x4x192x1, .f32⟩
  | 14 => ⟨S_, .f32⟩
  | 15 => ⟨S10x4x192, .f32⟩
  | 16 => ⟨S10x4x192x1, .f32⟩
  | 17 => ⟨S_, .f32⟩
  | 18 => ⟨S10x4x192x1, .f32⟩
  | 19 => ⟨S10x4x192x1, .f32⟩
  | 20 => ⟨S10x4x192x1, .f32⟩
  | 21 => ⟨S10x4x192x1, .f32⟩
  | 22 => ⟨S10x4x192x3136, .f32⟩
  | 23 => ⟨S10x4x192x3136, .f32⟩
  | 24 => ⟨S10x4x192x3136, .f32⟩
  | 25 => ⟨S_, .f32⟩
  | 26 => ⟨S10x4x192, .f32⟩
  | 27 => ⟨S10x4x192x1, .f32⟩
  | 28 => ⟨S_, .f32⟩
  | 29 => ⟨S10x4x192, .f32⟩
  | 30 => ⟨S10x4x192x1, .f32⟩
  | 31 => ⟨S_, .f32⟩
  | 32 => ⟨S10x4x192x1, .f32⟩
  | 33 => ⟨S10x4x192x1, .f32⟩
  | 34 => ⟨S10x4x192x1, .f32⟩
  | 35 => ⟨S10x4x192x1, .f32⟩
  | 36 => ⟨S10x4x192x1, .f32⟩
  | 37 => ⟨S10x4x192x3136, .f32⟩
  | 38 => ⟨S10x4x192x3136, .f32⟩
  | 39 => ⟨S_, .f32⟩
  | 40 => ⟨S10x4x192, .f32⟩
  | 41 => ⟨S10x4x192x1, .f32⟩
  | 42 => ⟨S_, .f32⟩
  | 43 => ⟨S10x4x192, .f32⟩
  | 44 => ⟨S10x4x192x1, .f32⟩
  | 45 => ⟨S10x4x192x3136, .f32⟩
  | 46 => ⟨S10x4x192x3136, .f32⟩
  | 47 => ⟨S10x4x192x1, .f32⟩
  | 48 => ⟨S_, .f32⟩
  | 49 => ⟨S10x4x192x1, .f32⟩
  | 50 => ⟨S10x4x192x1, .f32⟩
  | 51 => ⟨S10x4x192x3136, .f32⟩
  | 52 => ⟨S10x4x192x3136, .f32⟩
  | 53 => ⟨S10x4x192x56x56, .f32⟩
  | 54 => ⟨S10x4x192x52x52, .f32⟩
  | 55 => ⟨S_, .f32⟩
  | 56 => ⟨S10x4x192x56x56, .f32⟩
  | 57 => ⟨S10x4x192x3136, .f32⟩
  | 58 => ⟨S10x4x192x3136, .f32⟩
  | 59 => ⟨S_, .f32⟩
  | 60 => ⟨S10x4x192, .f32⟩
  | 61 => ⟨S10x4x192x1, .f32⟩
  | 62 => ⟨S_, .f32⟩
  | 63 => ⟨S10x4x192, .f32⟩
  | 64 => ⟨S10x4x192x1, .f32⟩
  | 65 => ⟨S_, .f32⟩
  | 66 => ⟨S10x4x192x1, .f32⟩
  | 67 => ⟨S10x4x192x1, .f32⟩
  | 68 => ⟨S10x4x192x1, .f32⟩
  | 69 => ⟨S10x4x192x1, .f32⟩
  | 70 => ⟨S10x4x192x1, .f32⟩
  | 71 => ⟨S10x4x192x3136, .f32⟩
  | 72 => ⟨S10x4x192x3136, .f32⟩
  | 73 => ⟨S10x4x192x56x56, .f32⟩
  | 74 => ⟨S_, .f32⟩
  | 75 => ⟨S10x4x56x56, .f32⟩
  | 76 => ⟨S_, .f32⟩
  | 77 => ⟨S_, .f32⟩
  | 78 => ⟨S_, .f32⟩
  | 79 => ⟨S240, .f32⟩
  | 80 => ⟨S_, .f32⟩
  | 81 => ⟨S240, .f32⟩
  | 82 => ⟨S240, .f32⟩
  | 83 => ⟨S_, .f32⟩
  | 84 => ⟨S240, .f32⟩
  | 85 => ⟨S240, .f32⟩
  | 86 => ⟨S_, .f32⟩
  | 87 => ⟨S240, .f32⟩
  | 88 => ⟨S240, .f32⟩
  | 89 => ⟨S_, .f32⟩
  | 90 => ⟨S240, .f32⟩
  | 91 => ⟨S240, .f32⟩
  | 92 => ⟨S56, .f32⟩
  | 93 => ⟨S1x240, .f32⟩
  | 94 => ⟨S56x1, .f32⟩
  | 95 => ⟨S56x240, .f32⟩
  | 96 => ⟨S56x240, .f32⟩
  | 97 => ⟨S56x240, .f32⟩
  | 98 => ⟨S56x240, .f32⟩
  | 99 => ⟨S_, .f32⟩
  | 100 => ⟨S56x240, .f32⟩
  | 101 => ⟨S56x240, .f32⟩
  | 102 => ⟨S56x240, .f32⟩
  | 103 => ⟨S_, .f32⟩
  | 104 => ⟨S56x240, .f32⟩
  | 105 => ⟨S56x240, .f32⟩
  | 106 => ⟨S_, .f32⟩
  | 107 => ⟨S56x240, .f32⟩
  | 108 => ⟨S56x240, .f32⟩
  | 109 => ⟨S_, .f32⟩
  | 110 => ⟨S240, .f32⟩
  | 111 => ⟨S1x240, .f32⟩
  | 112 => ⟨S1x240, .f32⟩
  | 113 => ⟨S_, .f32⟩
  | 114 => ⟨S1x240, .f32⟩
  | 115 => ⟨S1x240, .i1⟩
  | 116 => ⟨S_, .f32⟩
  | 117 => ⟨S1x240, .f32⟩
  | 118 => ⟨S1x240, .i1⟩
  | 119 => ⟨S_, .i32⟩
  | 120 => ⟨S_, .f32⟩
  | 121 => ⟨S1x240, .f32⟩
  | 122 => ⟨S1x240, .f32⟩
  | 123 => ⟨S56x240, .f32⟩
  | 124 => ⟨S56x240, .f32⟩
  | 125 => ⟨S_, .i32⟩
  | 126 => ⟨S_, .f32⟩
  | 127 => ⟨S56x240, .i1⟩
  | _ => ⟨S17x4x192x56x56, .f32⟩

abbrev hbmTy0_2 (i : Nat) : BufTy := match i % 128 with
  | 0 => ⟨S56x240, .f32⟩
  | 1 => ⟨S56x240, .f32⟩
  | 2 => ⟨S_, .f32⟩
  | 3 => ⟨S240, .f32⟩
  | 4 => ⟨S240, .i1⟩
  | 5 => ⟨S_, .f32⟩
  | 6 => ⟨S240, .f32⟩
  | 7 => ⟨S240, .i1⟩
  | 8 => ⟨S240, .i1⟩
  | 9 => ⟨S1x240, .i1⟩
  | 10 => ⟨S_, .i32⟩
  | 11 => ⟨S_, .f32⟩
  | 12 => ⟨S56x240, .i1⟩
  | 13 => ⟨S56x240, .f32⟩
  | 14 => ⟨S56x240, .f32⟩
  | 15 => ⟨S_, .f32⟩
  | 16 => ⟨S_, .f32⟩
  | 17 => ⟨S_, .f32⟩
  | 18 => ⟨S240, .f32⟩
  | 19 => ⟨S_, .f32⟩
  | 20 => ⟨S240, .f32⟩
  | 21 => ⟨S240, .f32⟩
  | 22 => ⟨S_, .f32⟩
  | 23 => ⟨S240, .f32⟩
  | 24 => ⟨S240, .f32⟩
  | 25 => ⟨S_, .f32⟩
  | 26 => ⟨S240, .f32⟩
  | 27 => ⟨S240, .f32⟩
  | 28 => ⟨S_, .f32⟩
  | 29 => ⟨S240, .f32⟩
  | 30 => ⟨S240, .f32⟩
  | 31 => ⟨S56, .f32⟩
  | 32 => ⟨S1x240, .f32⟩
  | 33 => ⟨S56x1, .f32⟩
  | 34 => ⟨S56x240, .f32⟩
  | 35 => ⟨S56x240, .f32⟩
  | 36 => ⟨S56x240, .f32⟩
  | 37 => ⟨S56x240, .f32⟩
  | 38 => ⟨S_, .f32⟩
  | 39 => ⟨S56x240, .f32⟩
  | 40 => ⟨S56x240, .f32⟩
  | 41 => ⟨S56x240, .f32⟩
  | 42 => ⟨S_, .f32⟩
  | 43 => ⟨S56x240, .f32⟩
  | 44 => ⟨S56x240, .f32⟩
  | 45 => ⟨S_, .f32⟩
  | 46 => ⟨S56x240, .f32⟩
  | 47 => ⟨S56x240, .f32⟩
  | 48 => ⟨S_, .f32⟩
  | 49 => ⟨S240, .f32⟩
  | 50 => ⟨S1x240, .f32⟩
  | 51 => ⟨S1x240, .f32⟩
  | 52 => ⟨S_, .f32⟩
  | 53 => ⟨S1x240, .f32⟩
  | 54 => ⟨S1x240, .i1⟩
  | 55 => ⟨S_, .f32⟩
  | 56 => ⟨S1x240, .f32⟩
  | 57 => ⟨S1x240, .i1⟩
  | 58 => ⟨S_, .i32⟩
  | 59 => ⟨S_, .f32⟩
  | 60 => ⟨S1x240, .f32⟩
  | 61 => ⟨S1x240, .f32⟩
  | 62 => ⟨S56x240, .f32⟩
  | 63 => ⟨S56x240, .f32⟩
  | 64 => ⟨S_, .i32⟩
  | 65 => ⟨S_, .f32⟩
  | 66 => ⟨S56x240, .i1⟩
  | 67 => ⟨S56x240, .f32⟩
  | 68 => ⟨S56x240, .f32⟩
  | 69 => ⟨S_, .f32⟩
  | 70 => ⟨S240, .f32⟩
  | 71 => ⟨S240, .i1⟩
  | 72 => ⟨S_, .f32⟩
  | 73 => ⟨S240, .f32⟩
  | 74 => ⟨S240, .i1⟩
  | 75 => ⟨S240, .i1⟩
  | 76 => ⟨S1x240, .i1⟩
  | 77 => ⟨S_, .i32⟩
  | 78 => ⟨S_, .f32⟩
  | 79 => ⟨S56x240, .i1⟩
  | 80 => ⟨S56x240, .f32⟩
  | 81 => ⟨S56x240, .f32⟩
  | 82 => ⟨S240x10x4x56, .f32⟩
  | 83 => ⟨S240x10x4x240, .f32⟩
  | 84 => ⟨S10x4x240x240, .f32⟩
  | 85 => ⟨S5x8x57600, .f32⟩
  | 86 => ⟨S_, .f32⟩
  | 87 => ⟨S5x8, .f32⟩
  | 88 => ⟨S5x8x1, .f32⟩
  | 89 => ⟨S_, .f32⟩
  | 90 => ⟨S5x8, .f32⟩
  | 91 => ⟨S5x8x1, .f32⟩
  | 92 => ⟨S5x8x57600, .f32⟩
  | 93 => ⟨S5x8x57600, .f32⟩
  | 94 => ⟨S5x8x1, .f32⟩
  | 95 => ⟨S_, .f32⟩
  | 96 => ⟨S5x8x1, .f32⟩
  | 97 => ⟨S5x8x1, .f32⟩
  | 98 => ⟨S5x8x57600, .f32⟩
  | 99 => ⟨S5x8x57600, .f32⟩
  | 100 => ⟨S_, .f32⟩
  | 101 => ⟨S5x8, .f32⟩
  | 102 => ⟨S5x8x1, .f32⟩
  | 103 => ⟨S_, .f32⟩
  | 104 => ⟨S5x8, .f32⟩
  | 105 => ⟨S5x8x1, .f32⟩
  | 106 => ⟨S5x8x57600, .f32⟩
  | 107 => ⟨S5x8x57600, .f32⟩
  | 108 => ⟨S5x8x1, .f32⟩
  | 109 => ⟨S_, .f32⟩
  | 110 => ⟨S5x8x1, .f32⟩
  | 111 => ⟨S5x8x1, .f32⟩
  | 112 => ⟨S5x8x57600, .f32⟩
  | 113 => ⟨S5x8x57600, .f32⟩
  | 114 => ⟨S_, .f32⟩
  | 115 => ⟨S5x8, .f32⟩
  | 116 => ⟨S5x8x1, .f32⟩
  | 117 => ⟨S_, .f32⟩
  | 118 => ⟨S5x8, .f32⟩
  | 119 => ⟨S5x8x1, .f32⟩
  | 120 => ⟨S_, .f32⟩
  | 121 => ⟨S5x8x1, .f32⟩
  | 122 => ⟨S5x8x1, .f32⟩
  | 123 => ⟨S5x8x1, .f32⟩
  | 124 => ⟨S5x8x1, .f32⟩
  | 125 => ⟨S5x8x57600, .f32⟩
  | 126 => ⟨S5x8x57600, .f32⟩
  | 127 => ⟨S_, .f32⟩
  | _ => ⟨S17x4x192x56x56, .f32⟩

abbrev hbmTy0_3 (i : Nat) : BufTy := match i % 128 with
  | 0 => ⟨S5x57600, .f32⟩
  | 1 => ⟨S_, .f32⟩
  | 2 => ⟨S5, .f32⟩
  | 3 => ⟨S5x1, .f32⟩
  | 4 => ⟨S_, .f32⟩
  | 5 => ⟨S5, .f32⟩
  | 6 => ⟨S5x1, .f32⟩
  | 7 => ⟨S5x57600, .f32⟩
  | 8 => ⟨S5x57600, .f32⟩
  | 9 => ⟨S5x1, .f32⟩
  | 10 => ⟨S_, .f32⟩
  | 11 => ⟨S5x1, .f32⟩
  | 12 => ⟨S5x1, .f32⟩
  | 13 => ⟨S5x57600, .f32⟩
  | 14 => ⟨S5x57600, .f32⟩
  | 15 => ⟨S_, .f32⟩
  | 16 => ⟨S5x57600, .f32⟩
  | 17 => ⟨S5x57600, .f32⟩
  | 18 => ⟨S1x5x240x240, .f32⟩
  | 19 => ⟨S_, .f32⟩
  | 20 => ⟨S1x240x240, .f32⟩
  | 21 => ⟨S1x57600, .f32⟩
  | 22 => ⟨S_, .f32⟩
  | 23 => ⟨S1, .f32⟩
  | 24 => ⟨S1x1, .f32⟩
  | 25 => ⟨S_, .f32⟩
  | 26 => ⟨S1, .f32⟩
  | 27 => ⟨S1x1, .f32⟩
  | 28 => ⟨S1x57600, .f32⟩
  | 29 => ⟨S1x57600, .f32⟩
  | 30 => ⟨S1x1, .f32⟩
  | 31 => ⟨S_, .f32⟩
  | 32 => ⟨S1x1, .f32⟩
  | 33 => ⟨S1x1, .f32⟩
  | 34 => ⟨S1x57600, .f32⟩
  | 35 => ⟨S1x57600, .f32⟩
  | 36 => ⟨S1x57600, .f32⟩
  | 37 => ⟨S_, .f32⟩
  | 38 => ⟨S1, .f32⟩
  | 39 => ⟨S1x1, .f32⟩
  | 40 => ⟨S_, .f32⟩
  | 41 => ⟨S1, .f32⟩
  | 42 => ⟨S1x1, .f32⟩
  | 43 => ⟨S1x57600, .f32⟩
  | 44 => ⟨S1x57600, .f32⟩
  | 45 => ⟨S1x1, .f32⟩
  | 46 => ⟨S_, .f32⟩
  | 47 => ⟨S1x1, .f32⟩
  | 48 => ⟨S1x1, .f32⟩
  | 49 => ⟨S1x57600, .f32⟩
  | 50 => ⟨S1x57600, .f32⟩
  | 51 => ⟨S1x240x240, .f32⟩
  | _ => ⟨S17x4x192x56x56, .f32⟩

abbrev hbmTy (i : Nat) : BufTy := match i / 128 with
  | 0 => hbmTy0_0 i
  | 1 => hbmTy0_1 i
  | 2 => hbmTy0_2 i
  | 3 => hbmTy0_3 i
  | _ => ⟨S17x4x192x56x56, .f32⟩

abbrev bufTy : (tb : Table) → Fin (tcTables nBuf tb) → BufTy
  | .hbm, ⟨i, _⟩ => hbmTy i
  | _, _ => ⟨S17x4x192x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_cst_5 : Ref sig .tc := ⟨.hbm, 28, rfl⟩
abbrev main_v21 : Ref sig .tc := ⟨.hbm, 29, rfl⟩
abbrev main_call0_v0 : Ref sig .tc := ⟨.hbm, 30, rfl⟩
abbrev main_call0_cst : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_cst_0 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_cst_1 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_v15 : Ref sig .tc := ⟨.hbm, 48, rfl⟩
abbrev main_call0_v16 : Ref sig .tc := ⟨.hbm, 49, rfl⟩
abbrev main_call0_v17 : Ref sig .tc := ⟨.hbm, 50, rfl⟩
abbrev main_call0_v18 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_6 : Ref sig .tc := ⟨.hbm, 58, rfl⟩
abbrev main_cst_7 : Ref sig .tc := ⟨.hbm, 59, rfl⟩
abbrev main_call1_v0 : Ref sig .tc := ⟨.hbm, 60, rfl⟩
abbrev main_call1_v1 : Ref sig .tc := ⟨.hbm, 61, rfl⟩
abbrev main_v28 : Ref sig .tc := ⟨.hbm, 62, rfl⟩
abbrev main_v29 : Ref sig .tc := ⟨.hbm, 63, rfl⟩
abbrev main_cst_8 : Ref sig .tc := ⟨.hbm, 64, rfl⟩
abbrev main_v30 : Ref sig .tc := ⟨.hbm, 65, rfl⟩
abbrev main_cst_9 : Ref sig .tc := ⟨.hbm, 66, rfl⟩
abbrev main_v31 : Ref sig .tc := ⟨.hbm, 67, rfl⟩
abbrev main_v32 : Ref sig .tc := ⟨.hbm, 68, rfl⟩
abbrev main_cst_10 : Ref sig .tc := ⟨.hbm, 69, rfl⟩
abbrev main_cst_11 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_12 : Ref sig .tc := ⟨.hbm, 83, rfl⟩
abbrev main_cst_13 : Ref sig .tc := ⟨.hbm, 84, rfl⟩
abbrev main_call3_v0 : Ref sig .tc := ⟨.hbm, 85, rfl⟩
abbrev main_call3_v1 : Ref sig .tc := ⟨.hbm, 86, rfl⟩
abbrev main_v40 : Ref sig .tc := ⟨.hbm, 87, rfl⟩
abbrev main_v41 : Ref sig .tc := ⟨.hbm, 88, rfl⟩
abbrev main_cst_14 : Ref sig .tc := ⟨.hbm, 89, rfl⟩
abbrev main_v42 : Ref sig .tc := ⟨.hbm, 90, rfl⟩
abbrev main_cst_15 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_cst_16 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_cst_17 : Ref sig .tc := ⟨.hbm, 101, rfl⟩
abbrev main_v51 : Ref sig .tc := ⟨.hbm, 102, rfl⟩
abbrev main_v52 : Ref sig .tc := ⟨.hbm, 103, rfl⟩
abbrev main_cst_18 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_c : Ref sig .tc := ⟨.hbm, 108, rfl⟩
abbrev main_c_19 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_v56 : Ref sig .tc := ⟨.hbm, 115, rfl⟩
abbrev main_call5_c : Ref sig .tc := ⟨.hbm, 116, rfl⟩
abbrev main_call5_v0 : Ref sig .tc := ⟨.hbm, 117, rfl⟩
abbrev main_call5_v1 : Ref sig .tc := ⟨.hbm, 118, rfl⟩
abbrev main_call5_c_0 : Ref sig .tc := ⟨.hbm, 119, rfl⟩
abbrev main_call5_v2 : Ref sig .tc := ⟨.hbm, 120, rfl⟩
abbrev main_call5_v3 : Ref sig .tc := ⟨.hbm, 121, rfl⟩
abbrev main_call5_v4 : Ref sig .tc := ⟨.hbm, 122, rfl⟩
abbrev main_call5_v5 : Ref sig .tc := ⟨.hbm, 123, rfl⟩
abbrev main_v57 : Ref sig .tc := ⟨.hbm, 124, rfl⟩
abbrev main_cst_20 : Ref sig .tc := ⟨.hbm, 125, rfl⟩
abbrev main_v58 : Ref sig .tc := ⟨.hbm, 126, rfl⟩
abbrev main_v59 : Ref sig .tc := ⟨.hbm, 127, rfl⟩
abbrev main_cst_21 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_cst_22 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_cst_23 : Ref sig .tc := ⟨.hbm, 139, rfl⟩
abbrev main_v69 : Ref sig .tc := ⟨.hbm, 140, rfl⟩
abbrev main_v70 : Ref sig .tc := ⟨.hbm, 141, rfl⟩
abbrev main_cst_24 : Ref sig .tc := ⟨.hbm, 142, rfl⟩
abbrev main_v71 : Ref sig .tc := ⟨.hbm, 143, rfl⟩
abbrev main_v72 : Ref sig .tc := ⟨.hbm, 144, rfl⟩
abbrev main_cst_25 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_cst_26 : Ref sig .tc := ⟨.hbm, 153, rfl⟩
abbrev main_v80 : Ref sig .tc := ⟨.hbm, 154, rfl⟩
abbrev main_v81 : Ref sig .tc := ⟨.hbm, 155, rfl⟩
abbrev main_cst_27 : Ref sig .tc := ⟨.hbm, 156, rfl⟩
abbrev main_v82 : Ref sig .tc := ⟨.hbm, 157, rfl⟩
abbrev main_v83 : Ref sig .tc := ⟨.hbm, 158, rfl⟩
abbrev main_cst_28 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_cst_29 : Ref sig .tc := ⟨.hbm, 167, rfl⟩
abbrev main_v91 : Ref sig .tc := ⟨.hbm, 168, rfl⟩
abbrev main_v92 : Ref sig .tc := ⟨.hbm, 169, rfl⟩
abbrev main_cst_30 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_cst_31 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_cst_32 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_cst_33 : Ref sig .tc := ⟨.hbm, 187, rfl⟩
abbrev main_v107 : Ref sig .tc := ⟨.hbm, 188, rfl⟩
abbrev main_v108 : Ref sig .tc := ⟨.hbm, 189, rfl⟩
abbrev main_cst_34 : Ref sig .tc := ⟨.hbm, 190, rfl⟩
abbrev main_v109 : Ref sig .tc := ⟨.hbm, 191, rfl⟩
abbrev main_v110 : Ref sig .tc := ⟨.hbm, 192, rfl⟩
abbrev main_cst_35 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_cst_36 : Ref sig .tc := ⟨.hbm, 202, rfl⟩
abbrev main_v119 : Ref sig .tc := ⟨.hbm, 203, rfl⟩
abbrev main_cst_37 : Ref sig .tc := ⟨.hbm, 204, rfl⟩
abbrev main_cst_38 : Ref sig .tc := ⟨.hbm, 205, rfl⟩
abbrev main_v120 : Ref sig .tc := ⟨.hbm, 206, rfl⟩
abbrev main_v121 : Ref sig .tc := ⟨.hbm, 207, rfl⟩
abbrev main_cst_39 : Ref sig .tc := ⟨.hbm, 208, rfl⟩
abbrev main_v122 : Ref sig .tc := ⟨.hbm, 209, rfl⟩
abbrev main_v123 : Ref sig .tc := ⟨.hbm, 210, rfl⟩
abbrev main_cst_40 : Ref sig .tc := ⟨.hbm, 211, rfl⟩
abbrev main_v124 : Ref sig .tc := ⟨.hbm, 212, rfl⟩
abbrev main_v125 : Ref sig .tc := ⟨.hbm, 213, rfl⟩
abbrev main_cst_41 : Ref sig .tc := ⟨.hbm, 214, rfl⟩
abbrev main_v126 : Ref sig .tc := ⟨.hbm, 215, rfl⟩
abbrev main_v127 : Ref sig .tc := ⟨.hbm, 216, rfl⟩
abbrev main_cst_42 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_cst_43 : Ref sig .tc := ⟨.hbm, 231, rfl⟩
abbrev main_v141 : Ref sig .tc := ⟨.hbm, 232, rfl⟩
abbrev main_v142 : Ref sig .tc := ⟨.hbm, 233, rfl⟩
abbrev main_cst_44 : Ref sig .tc := ⟨.hbm, 234, rfl⟩
abbrev main_v143 : Ref sig .tc := ⟨.hbm, 235, rfl⟩
abbrev main_v144 : Ref sig .tc := ⟨.hbm, 236, rfl⟩
abbrev main_cst_45 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_cst_46 : Ref sig .tc := ⟨.hbm, 241, rfl⟩
abbrev main_v148 : Ref sig .tc := ⟨.hbm, 242, rfl⟩
abbrev main_v149 : Ref sig .tc := ⟨.hbm, 243, rfl⟩
abbrev main_cst_47 : Ref sig .tc := ⟨.hbm, 244, rfl⟩
abbrev main_v150 : Ref sig .tc := ⟨.hbm, 245, rfl⟩
abbrev main_v151 : Ref sig .tc := ⟨.hbm, 246, rfl⟩
abbrev main_c_48 : Ref sig .tc := ⟨.hbm, 247, rfl⟩
abbrev main_call6_v0 : Ref sig .tc := ⟨.hbm, 248, rfl⟩
abbrev main_call6_v1 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_c_49 : Ref sig .tc := ⟨.hbm, 253, rfl⟩
abbrev main_call7_v0 : Ref sig .tc := ⟨.hbm, 254, rfl⟩
abbrev main_call7_v1 : Ref sig .tc := ⟨.hbm, 255, rfl⟩
abbrev main_call7_v2 : Ref sig .tc := ⟨.hbm, 256, rfl⟩
abbrev main_v155 : Ref sig .tc := ⟨.hbm, 257, rfl⟩
abbrev main_cst_50 : Ref sig .tc := ⟨.hbm, 258, rfl⟩
abbrev main_v156 : Ref sig .tc := ⟨.hbm, 259, rfl⟩
abbrev main_v157 : Ref sig .tc := ⟨.hbm, 260, rfl⟩
abbrev main_cst_51 : Ref sig .tc := ⟨.hbm, 261, rfl⟩
abbrev main_v158 : Ref sig .tc := ⟨.hbm, 262, rfl⟩
abbrev main_v159 : Ref sig .tc := ⟨.hbm, 263, rfl⟩
abbrev main_v160 : Ref sig .tc := ⟨.hbm, 264, rfl⟩
abbrev main_v161 : Ref sig .tc := ⟨.hbm, 265, rfl⟩
abbrev main_c_52 : Ref sig .tc := ⟨.hbm, 266, rfl⟩
abbrev main_call8_v0 : Ref sig .tc := ⟨.hbm, 267, rfl⟩
abbrev main_call8_v1 : Ref sig .tc := ⟨.hbm, 268, rfl⟩
abbrev main_call8_v2 : Ref sig .tc := ⟨.hbm, 269, rfl⟩
abbrev main_v162 : Ref sig .tc := ⟨.hbm, 270, rfl⟩
abbrev main_cst_53 : Ref sig .tc := ⟨.hbm, 271, rfl⟩
abbrev main_cst_54 : Ref sig .tc := ⟨.hbm, 272, rfl⟩
abbrev main_v163 : Ref sig .tc := ⟨.hbm, 273, rfl⟩
abbrev main_v164 : Ref sig .tc := ⟨.hbm, 274, rfl⟩
abbrev main_cst_55 : Ref sig .tc := ⟨.hbm, 275, rfl⟩
abbrev main_v165 : Ref sig .tc := ⟨.hbm, 276, rfl⟩
abbrev main_v166 : Ref sig .tc := ⟨.hbm, 277, rfl⟩
abbrev main_cst_56 : Ref sig .tc := ⟨.hbm, 278, rfl⟩
abbrev main_v167 : Ref sig .tc := ⟨.hbm, 279, rfl⟩
abbrev main_v168 : Ref sig .tc := ⟨.hbm, 280, rfl⟩
abbrev main_cst_57 : Ref sig .tc := ⟨.hbm, 281, rfl⟩
abbrev main_v169 : Ref sig .tc := ⟨.hbm, 282, rfl⟩
abbrev main_v170 : Ref sig .tc := ⟨.hbm, 283, rfl⟩
abbrev main_cst_58 : Ref sig .tc := ⟨.hbm, 284, rfl⟩
abbrev main_v171 : Ref sig .tc := ⟨.hbm, 285, rfl⟩
abbrev main_v172 : Ref sig .tc := ⟨.hbm, 286, rfl⟩
abbrev main_v173 : Ref sig .tc := ⟨.hbm, 287, rfl⟩
abbrev main_v174 : Ref sig .tc := ⟨.hbm, 288, rfl⟩
abbrev main_v175 : Ref sig .tc := ⟨.hbm, 289, rfl⟩
abbrev main_v176 : Ref sig .tc := ⟨.hbm, 290, rfl⟩
abbrev main_v177 : Ref sig .tc := ⟨.hbm, 291, rfl⟩
abbrev main_v178 : Ref sig .tc := ⟨.hbm, 292, rfl⟩
abbrev main_v179 : Ref sig .tc := ⟨.hbm, 293, rfl⟩
abbrev main_v180 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩
abbrev main_cst_59 : Ref sig .tc := ⟨.hbm, 298, rfl⟩
abbrev main_v184 : Ref sig .tc := ⟨.hbm, 299, rfl⟩
abbrev main_v185 : Ref sig .tc := ⟨.hbm, 300, rfl⟩
abbrev main_cst_60 : Ref sig .tc := ⟨.hbm, 301, rfl⟩
abbrev main_v186 : Ref sig .tc := ⟨.hbm, 302, rfl⟩
abbrev main_v187 : Ref sig .tc := ⟨.hbm, 303, rfl⟩
abbrev main_cst_61 : Ref sig .tc := ⟨.hbm, 304, rfl⟩
abbrev main_v188 : Ref sig .tc := ⟨.hbm, 305, rfl⟩
abbrev main_v189 : Ref sig .tc := ⟨.hbm, 306, rfl⟩
abbrev main_v190 : Ref sig .tc := ⟨.hbm, 307, rfl⟩
abbrev main_cst_62 : Ref sig .tc := ⟨.hbm, 308, rfl⟩
abbrev main_v191 : Ref sig .tc := ⟨.hbm, 309, rfl⟩
abbrev main_v192 : Ref sig .tc := ⟨.hbm, 310, rfl⟩
abbrev main_cst_63 : Ref sig .tc := ⟨.hbm, 311, rfl⟩
abbrev main_v193 : Ref sig .tc := ⟨.hbm, 312, rfl⟩
abbrev main_v194 : Ref sig .tc := ⟨.hbm, 313, rfl⟩
abbrev main_c_64 : Ref sig .tc := ⟨.hbm, 314, rfl⟩
abbrev main_call9_v0 : Ref sig .tc := ⟨.hbm, 315, rfl⟩
abbrev main_call9_v1 : Ref sig .tc := ⟨.hbm, 316, rfl⟩
abbrev main_v195 : Ref sig .tc := ⟨.hbm, 317, rfl⟩
abbrev main_v196 : Ref sig .tc := ⟨.hbm, 318, rfl⟩
abbrev main_v197 : Ref sig .tc := ⟨.hbm, 319, rfl⟩
abbrev main_c_65 : Ref sig .tc := ⟨.hbm, 320, rfl⟩
abbrev main_call10_v0 : Ref sig .tc := ⟨.hbm, 321, rfl⟩
abbrev main_call10_v1 : Ref sig .tc := ⟨.hbm, 322, rfl⟩
abbrev main_call10_v2 : Ref sig .tc := ⟨.hbm, 323, rfl⟩
abbrev main_v198 : Ref sig .tc := ⟨.hbm, 324, rfl⟩
abbrev main_cst_66 : Ref sig .tc := ⟨.hbm, 325, rfl⟩
abbrev main_v199 : Ref sig .tc := ⟨.hbm, 326, rfl⟩
abbrev main_v200 : Ref sig .tc := ⟨.hbm, 327, rfl⟩
abbrev main_cst_67 : Ref sig .tc := ⟨.hbm, 328, rfl⟩
abbrev main_v201 : Ref sig .tc := ⟨.hbm, 329, rfl⟩
abbrev main_v202 : Ref sig .tc := ⟨.hbm, 330, rfl⟩
abbrev main_v203 : Ref sig .tc := ⟨.hbm, 331, rfl⟩
abbrev main_v204 : Ref sig .tc := ⟨.hbm, 332, rfl⟩
abbrev main_c_68 : Ref sig .tc := ⟨.hbm, 333, rfl⟩
abbrev main_call11_v0 : Ref sig .tc := ⟨.hbm, 334, rfl⟩
abbrev main_call11_v1 : Ref sig .tc := ⟨.hbm, 335, rfl⟩
abbrev main_call11_v2 : Ref sig .tc := ⟨.hbm, 336, rfl⟩
abbrev main_v205 : Ref sig .tc := ⟨.hbm, 337, rfl⟩
abbrev main_v206 : Ref sig .tc := ⟨.hbm, 338, rfl⟩
abbrev main_v207 : Ref sig .tc := ⟨.hbm, 339, rfl⟩
abbrev main_v208 : Ref sig .tc := ⟨.hbm, 340, rfl⟩
abbrev main_v209 : Ref sig .tc := ⟨.hbm, 341, rfl⟩
abbrev main_cst_69 : Ref sig .tc := ⟨.hbm, 342, rfl⟩
abbrev main_v210 : Ref sig .tc := ⟨.hbm, 343, rfl⟩
abbrev main_v211 : Ref sig .tc := ⟨.hbm, 344, rfl⟩
abbrev main_cst_70 : Ref sig .tc := ⟨.hbm, 345, rfl⟩
abbrev main_v212 : Ref sig .tc := ⟨.hbm, 346, rfl⟩
abbrev main_v213 : Ref sig .tc := ⟨.hbm, 347, rfl⟩
abbrev main_v214 : Ref sig .tc := ⟨.hbm, 348, rfl⟩
abbrev main_v215 : Ref sig .tc := ⟨.hbm, 349, rfl⟩
abbrev main_v216 : Ref sig .tc := ⟨.hbm, 350, rfl⟩
abbrev main_cst_71 : Ref sig .tc := ⟨.hbm, 351, rfl⟩
abbrev main_v217 : Ref sig .tc := ⟨.hbm, 352, rfl⟩
abbrev main_v218 : Ref sig .tc := ⟨.hbm, 353, rfl⟩
abbrev main_v219 : Ref sig .tc := ⟨.hbm, 354, rfl⟩
abbrev main_v220 : Ref sig .tc := ⟨.hbm, 355, rfl⟩
abbrev main_cst_72 : Ref sig .tc := ⟨.hbm, 356, rfl⟩
abbrev main_v221 : Ref sig .tc := ⟨.hbm, 357, rfl⟩
abbrev main_v222 : Ref sig .tc := ⟨.hbm, 358, rfl⟩
abbrev main_cst_73 : Ref sig .tc := ⟨.hbm, 359, rfl⟩
abbrev main_v223 : Ref sig .tc := ⟨.hbm, 360, rfl⟩
abbrev main_v224 : Ref sig .tc := ⟨.hbm, 361, rfl⟩
abbrev main_v225 : Ref sig .tc := ⟨.hbm, 362, rfl⟩
abbrev main_v226 : Ref sig .tc := ⟨.hbm, 363, rfl⟩
abbrev main_v227 : Ref sig .tc := ⟨.hbm, 364, rfl⟩
abbrev main_cst_74 : Ref sig .tc := ⟨.hbm, 365, rfl⟩
abbrev main_v228 : Ref sig .tc := ⟨.hbm, 366, rfl⟩
abbrev main_v229 : Ref sig .tc := ⟨.hbm, 367, rfl⟩
abbrev main_v230 : Ref sig .tc := ⟨.hbm, 368, rfl⟩
abbrev main_v231 : Ref sig .tc := ⟨.hbm, 369, rfl⟩
abbrev main_cst_75 : Ref sig .tc := ⟨.hbm, 370, rfl⟩
abbrev main_v232 : Ref sig .tc := ⟨.hbm, 371, rfl⟩
abbrev main_v233 : Ref sig .tc := ⟨.hbm, 372, rfl⟩
abbrev main_cst_76 : Ref sig .tc := ⟨.hbm, 373, rfl⟩
abbrev main_v234 : Ref sig .tc := ⟨.hbm, 374, rfl⟩
abbrev main_v235 : Ref sig .tc := ⟨.hbm, 375, rfl⟩
abbrev main_cst_77 : Ref sig .tc := ⟨.hbm, 376, rfl⟩
abbrev main_v236 : Ref sig .tc := ⟨.hbm, 377, rfl⟩
abbrev main_v237 : Ref sig .tc := ⟨.hbm, 378, rfl⟩
abbrev main_v238 : Ref sig .tc := ⟨.hbm, 379, rfl⟩
abbrev main_v239 : Ref sig .tc := ⟨.hbm, 380, rfl⟩
abbrev main_v240 : Ref sig .tc := ⟨.hbm, 381, rfl⟩
abbrev main_v241 : Ref sig .tc := ⟨.hbm, 382, rfl⟩
abbrev main_cst_78 : Ref sig .tc := ⟨.hbm, 383, rfl⟩
abbrev main_v242 : Ref sig .tc := ⟨.hbm, 384, rfl⟩
abbrev main_cst_79 : Ref sig .tc := ⟨.hbm, 385, rfl⟩
abbrev main_v243 : Ref sig .tc := ⟨.hbm, 386, rfl⟩
abbrev main_v244 : Ref sig .tc := ⟨.hbm, 387, rfl⟩
abbrev main_cst_80 : Ref sig .tc := ⟨.hbm, 388, rfl⟩
abbrev main_v245 : Ref sig .tc := ⟨.hbm, 389, rfl⟩
abbrev main_v246 : Ref sig .tc := ⟨.hbm, 390, rfl⟩
abbrev main_v247 : Ref sig .tc := ⟨.hbm, 391, rfl⟩
abbrev main_v248 : Ref sig .tc := ⟨.hbm, 392, rfl⟩
abbrev main_v249 : Ref sig .tc := ⟨.hbm, 393, rfl⟩
abbrev main_cst_81 : Ref sig .tc := ⟨.hbm, 394, rfl⟩
abbrev main_v250 : Ref sig .tc := ⟨.hbm, 395, rfl⟩
abbrev main_v251 : Ref sig .tc := ⟨.hbm, 396, rfl⟩
abbrev main_v252 : Ref sig .tc := ⟨.hbm, 397, rfl⟩
abbrev main_v253 : Ref sig .tc := ⟨.hbm, 398, rfl⟩
abbrev main_cst_82 : Ref sig .tc := ⟨.hbm, 399, rfl⟩
abbrev main_v254 : Ref sig .tc := ⟨.hbm, 400, rfl⟩
abbrev main_v255 : Ref sig .tc := ⟨.hbm, 401, rfl⟩
abbrev main_v256 : Ref sig .tc := ⟨.hbm, 402, rfl⟩
abbrev main_cst_83 : Ref sig .tc := ⟨.hbm, 403, rfl⟩
abbrev main_v257 : Ref sig .tc := ⟨.hbm, 404, rfl⟩
abbrev main_v258 : Ref sig .tc := ⟨.hbm, 405, rfl⟩
abbrev main_cst_84 : Ref sig .tc := ⟨.hbm, 406, rfl⟩
abbrev main_v259 : Ref sig .tc := ⟨.hbm, 407, rfl⟩
abbrev main_v260 : Ref sig .tc := ⟨.hbm, 408, rfl⟩
abbrev main_cst_85 : Ref sig .tc := ⟨.hbm, 409, rfl⟩
abbrev main_v261 : Ref sig .tc := ⟨.hbm, 410, rfl⟩
abbrev main_v262 : Ref sig .tc := ⟨.hbm, 411, rfl⟩
abbrev main_v263 : Ref sig .tc := ⟨.hbm, 412, rfl⟩
abbrev main_v264 : Ref sig .tc := ⟨.hbm, 413, rfl⟩
abbrev main_v265 : Ref sig .tc := ⟨.hbm, 414, rfl⟩
abbrev main_cst_86 : Ref sig .tc := ⟨.hbm, 415, rfl⟩
abbrev main_v266 : Ref sig .tc := ⟨.hbm, 416, rfl⟩
abbrev main_v267 : Ref sig .tc := ⟨.hbm, 417, rfl⟩
abbrev main_v268 : Ref sig .tc := ⟨.hbm, 418, rfl⟩
abbrev main_v269 : Ref sig .tc := ⟨.hbm, 419, rfl⟩
abbrev main_v270 : Ref sig .tc := ⟨.hbm, 420, rfl⟩
abbrev main_cst_87 : Ref sig .tc := ⟨.hbm, 421, rfl⟩
abbrev main_v271 : Ref sig .tc := ⟨.hbm, 422, rfl⟩
abbrev main_v272 : Ref sig .tc := ⟨.hbm, 423, rfl⟩
abbrev main_cst_88 : Ref sig .tc := ⟨.hbm, 424, rfl⟩
abbrev main_v273 : Ref sig .tc := ⟨.hbm, 425, rfl⟩
abbrev main_v274 : Ref sig .tc := ⟨.hbm, 426, rfl⟩
abbrev main_v275 : Ref sig .tc := ⟨.hbm, 427, rfl⟩
abbrev main_v276 : Ref sig .tc := ⟨.hbm, 428, rfl⟩
abbrev main_v277 : Ref sig .tc := ⟨.hbm, 429, rfl⟩
abbrev main_cst_89 : Ref sig .tc := ⟨.hbm, 430, rfl⟩
abbrev main_v278 : Ref sig .tc := ⟨.hbm, 431, rfl⟩
abbrev main_v279 : Ref sig .tc := ⟨.hbm, 432, rfl⟩
abbrev main_v280 : Ref sig .tc := ⟨.hbm, 433, rfl⟩
abbrev main_v281 : Ref sig .tc := ⟨.hbm, 434, rfl⟩
abbrev main_v282 : Ref sig .tc := ⟨.hbm, 435, rfl⟩

abbrev nD : Nat := 1
abbrev τ : Topo := Topo.v7x

variable {F : FTy → Type} [FloatOps F]
-- ==== Proof.RefFrame.lean ====
/-
  The reference's frame: it runs to its end, the argument array is unchanged, and every semaphore counter ends at zero
  (the program declares no semaphore).
-/
module

public import proofs.«01_k».proof.Proof.Gen.ReferenceIdeal.Run

@[expose] public section

noncomputable section

namespace Cert.ReferenceIdeal.Own

open Idealize.ShloMosaic Idealize.SL.Sem Cert.ReferenceIdeal

/-- The reference leaves its argument as it was launched, and no counter is anything but zero. -/
theorem quiescent {F : FTy → Type} [FloatOps F] (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0))
      ∧ r.2.sem = fun _ => 0 :=
  (θ_run defs _ _).mono (fun _ h => ⟨fun c => (h c).2.2, funext fun s => nomatch s⟩) (Value.run m ρ)

end Cert.ReferenceIdeal.Own

end
-- ==== Proof.Chain.lean ====
/-
  The weighting of one channel, twice. `chain` is the reference's: every quantity is per pixel. `perBin` is the kernel's:
  every quantity is per bin, a minimum or maximum runs over the bins that some pixel looks up, a mean is weighted by how
  many pixels look a bin up. `perBin_eq` says that a pixel's value in `chain` is its bin's value in `perBin`.
-/
module

public import Idealize.ShloMosaic.PureOps.Ideal.Laws

@[expose] public section

noncomputable section

namespace Rarity

open Idealize.ShloMosaic

/-- Eleven values, combined from the left. -/
def fold11 {α : Type} (op : α → α → α) (f : Fin 11 → α) : α :=
  op (op (op (op (op (op (op (op (op (op (f 0) (f 1)) (f 2)) (f 3)) (f 4)) (f 5)) (f 6)) (f 7)) (f 8)) (f 9)) (f 10)

theorem fold11_min (f : Fin 11 → EReal) : fold11 min f = Finset.univ.inf f := by
  refine le_antisymm (Finset.le_inf fun j _ => ?_) ?_
  · have h := le_refl (fold11 min f)
    conv at h => rhs; unfold fold11
    simp only [le_min_iff] at h
    fin_cases j <;> simp [h]
  · have h : ∀ j, Finset.univ.inf f ≤ f j := fun j => Finset.inf_le (Finset.mem_univ j)
    unfold fold11
    simp only [le_min_iff]
    exact ⟨⟨⟨⟨⟨⟨⟨⟨⟨⟨h 0, h 1⟩, h 2⟩, h 3⟩, h 4⟩, h 5⟩, h 6⟩, h 7⟩, h 8⟩, h 9⟩, h 10⟩

theorem fold11_max (f : Fin 11 → EReal) : fold11 max f = Finset.univ.sup f := by
  refine le_antisymm ?_ (Finset.sup_le fun j _ => ?_)
  · have h : ∀ j, f j ≤ Finset.univ.sup f := fun j => Finset.le_sup (Finset.mem_univ j)
    unfold fold11
    simp only [max_le_iff]
    exact ⟨⟨⟨⟨⟨⟨⟨⟨⟨⟨h 0, h 1⟩, h 2⟩, h 3⟩, h 4⟩, h 5⟩, h 6⟩, h 7⟩, h 8⟩, h 9⟩, h 10⟩
  · have h := le_refl (fold11 max f)
    conv at h => lhs; unfold fold11
    simp only [max_le_iff] at h
    fin_cases j <;> simp [h]

theorem fold11_add (f : Fin 11 → EReal) : fold11 (· + ·) f = ∑ j, f j := by
  simp only [Fin.sum_univ_succ, Fin.sum_univ_zero, add_zero, fold11, ← add_assoc]
  rfl

variable {P : Type} [Fintype P]

/-! ## The reference's -/

def vmin (f : P → EReal) : EReal := Finset.univ.inf f
def vmax (f : P → EReal) : EReal := Finset.univ.sup f
/-- Scaled by the least and greatest values. -/
def unit (e : EReal) (f : P → EReal) (p : P) : EReal := Ideal.div (f p - vmin f) (vmax f - vmin f + e)
/-- The square of greatest value minus mean. -/
def weight (n : EReal) (f : P → EReal) : EReal :=
  (vmax f - Ideal.div (∑ p, f p) n) * (vmax f - Ideal.div (∑ p, f p) n)

section
variable (e n : EReal) (inside : P → Bool) (h : P → EReal)
def c1 : P → EReal := unit e h
def c2 (p : P) : EReal := (c1 e h p * weight n (c1 e h)) * (c1 e h p * weight n (c1 e h))
def c3 (p : P) : EReal := weight n (c2 e n h) * c2 e n h p
def c4 : P → EReal := unit e (c3 e n h)
def c5 (p : P) : EReal := (if inside p then c4 e n h p else 0) * (if inside p then c4 e n h p else 0)
def chain (p : P) : EReal := weight n (c5 e n inside h) * c5 e n inside h p
end

/-! ## The kernel's -/

section
variable (e ninv : EReal) (c ci hv : Fin 11 → EReal) (j : Fin 11)

def least (f : Fin 11 → EReal) : EReal := fold11 min fun j => if 0 < c j then f j else ⊤
def greatest (f : Fin 11 → EReal) : EReal := fold11 max fun j => if 0 < c j then f j else ⊥
def mean (f : Fin 11 → EReal) : EReal := (fold11 (· + ·) fun j => c j * f j) * ninv
def b1 : EReal := Ideal.div (hv j - least c hv) (greatest c hv - least c hv + e)
def bw1 : EReal :=
  (Ideal.div (greatest c hv - least c hv) (greatest c hv - least c hv + e) - mean ninv c (b1 e c hv)) *
    (Ideal.div (greatest c hv - least c hv) (greatest c hv - least c hv + e) - mean ninv c (b1 e c hv))
def b2 : EReal := (b1 e c hv j * bw1 e ninv c hv) * (b1 e c hv j * bw1 e ninv c hv)
def bw2 : EReal :=
  (greatest c (b2 e ninv c hv) - mean ninv c (b2 e ninv c hv)) * (greatest c (b2 e ninv c hv) - mean ninv c (b2 e ninv c hv))
def b3 : EReal := bw2 e ninv c hv * b2 e ninv c hv j
def b4 : EReal :=
  Ideal.div (b3 e ninv c hv j - least c (b3 e ninv c hv))
    (greatest c (b3 e ninv c hv) - least c (b3 e ninv c hv) + e)
def b5 : EReal := b4 e ninv c hv j * b4 e ninv c hv j
def bmax : EReal := fold11 max fun j => if 0 < ci j then b5 e ninv c hv j else 0
def bw3 : EReal :=
  (bmax e ninv c ci hv - mean ninv ci (b5 e ninv c hv)) * (bmax e ninv c ci hv - mean ninv ci (b5 e ninv c hv))
def perBin : EReal := bw3 e ninv c ci hv * b5 e ninv c hv j
end

/-! ## They agree -/

section
variable (b : P → Fin 11) (w : P → EReal)

/-- How much weight the pixels that look bin `j` up have. -/
def count (j : Fin 11) : EReal := ∑ p, (if b p = j then 1 else 0) * w p

theorem count_term_nonneg (hw : ∀ p, 0 ≤ w p) (j : Fin 11) (p : P) : 0 ≤ (if b p = j then (1 : EReal) else 0) * w p :=
  mul_nonneg (by split <;> simp) (hw p)

theorem count_pos (hw : ∀ p, 0 ≤ w p) (j : Fin 11) : 0 < count b w j ↔ ∃ p, b p = j ∧ 0 < w p := by
  constructor
  · intro h
    by_contra hn
    push Not at hn
    have : count b w j = 0 := Finset.sum_eq_zero fun p _ => by
      by_cases hp : b p = j
      · rw [le_antisymm (hn p hp) (hw p), mul_zero]
      · simp [hp]
    exact absurd h (by rw [this]; exact lt_irrefl _)
  · rintro ⟨p, hp, hwp⟩
    have := Finset.single_le_sum (f := fun p => (if b p = j then (1 : EReal) else 0) * w p)
      (fun q _ => count_term_nonneg b w hw j q) (Finset.mem_univ p)
    refine lt_of_lt_of_le hwp ?_
    simpa [hp, count] using this

theorem least_eq (hw : ∀ p, 0 < w p) (f : Fin 11 → EReal) : least (count b w) f = vmin fun p => f (b p) := by
  rw [least, fold11_min]
  refine le_antisymm (Finset.le_inf fun p _ => ?_) (Finset.le_inf fun j _ => ?_)
  · refine (Finset.inf_le (Finset.mem_univ (b p))).trans ?_
    rw [if_pos ((count_pos b w (fun p => (hw p).le) _).2 ⟨p, rfl, hw p⟩)]
  · split
    · rename_i h
      obtain ⟨p, rfl, _⟩ := (count_pos b w (fun p => (hw p).le) _).1 h
      exact Finset.inf_le (f := fun p => f (b p)) (Finset.mem_univ p)
    · exact le_top

theorem greatest_eq (hw : ∀ p, 0 < w p) (f : Fin 11 → EReal) : greatest (count b w) f = vmax fun p => f (b p) := by
  rw [greatest, fold11_max]
  refine le_antisymm (Finset.sup_le fun j _ => ?_) (Finset.sup_le fun p _ => ?_)
  · split
    · rename_i h
      obtain ⟨p, rfl, _⟩ := (count_pos b w (fun p => (hw p).le) _).1 h
      exact Finset.le_sup (f := fun p => f (b p)) (Finset.mem_univ p)
    · exact bot_le
  · refine le_trans ?_ (Finset.le_sup (f := fun j => if 0 < count b w j then f j else ⊥) (Finset.mem_univ (b p)))
    rw [if_pos ((count_pos b w (fun p => (hw p).le) _).2 ⟨p, rfl, hw p⟩)]

theorem sum_mul_of_nonneg {ι : Type} (s : Finset ι) (g : ι → EReal) (hg : ∀ i, 0 ≤ g i) (x : EReal) :
    (∑ i ∈ s, g i) * x = ∑ i ∈ s, g i * x := by
  classical
  induction s using Finset.induction_on with
  | empty => simp
  | insert a s ha ih =>
    rw [Finset.sum_insert ha, Finset.sum_insert ha,
      EReal.right_distrib_of_nonneg (hg a) (Finset.sum_nonneg fun i _ => hg i), ih]

theorem mean_eq (hw : ∀ p, 0 ≤ w p) (ninv : EReal) (f : Fin 11 → EReal) :
    mean ninv (count b w) f = (∑ p, w p * f (b p)) * ninv := by
  rw [mean, fold11_add]
  congr 1
  have : ∀ j, count b w j * f j = ∑ p, if b p = j then w p * f (b p) else 0 := fun j => by
    rw [count, sum_mul_of_nonneg _ _ (count_term_nonneg b w hw j)]
    refine Finset.sum_congr rfl fun p _ => ?_
    by_cases hp : b p = j
    · simp [hp]
    · simp [hp]
  simp only [this]
  rw [Finset.sum_comm]
  refine Finset.sum_congr rfl fun p _ => ?_
  simp

end

theorem exists_vmax [Nonempty P] (f : P → EReal) : ∃ p, vmax f = f p := by
  obtain ⟨p, _, h⟩ := Finset.exists_mem_eq_sup Finset.univ Finset.univ_nonempty f
  exact ⟨p, h⟩

theorem exists_vmin [Nonempty P] (f : P → EReal) : ∃ p, vmin f = f p := by
  obtain ⟨p, _, h⟩ := Finset.exists_mem_eq_inf Finset.univ Finset.univ_nonempty f
  exact ⟨p, h⟩

theorem le_vmax (f : P → EReal) (p : P) : f p ≤ vmax f := Finset.le_sup (Finset.mem_univ p)
theorem vmin_le (f : P → EReal) (p : P) : vmin f ≤ f p := Finset.inf_le (Finset.mem_univ p)

/-- A monotone function of a greatest value is the greatest value of the function. -/
theorem vmax_mono [Nonempty P] (f : P → EReal) (g : EReal → EReal) (hg : Monotone g) :
    vmax (fun p => g (f p)) = g (vmax f) := by
  refine le_antisymm (Finset.sup_le fun p _ => hg (le_vmax f p)) ?_
  obtain ⟨p, h⟩ := exists_vmax f
  rw [h]
  exact le_vmax (fun p => g (f p)) p

/-- Division by a positive number is monotone. -/
theorem div_mono {d : EReal} (hd : 0 < d) : Monotone fun x => Ideal.div x d := by
  intro x y h
  simp only [Ideal.div, if_neg hd.ne']
  exact mul_le_mul_of_nonneg_right h (EReal.inv_nonneg_of_nonneg hd.le)

theorem mul_self_nonneg' (x : EReal) : 0 ≤ x * x := by
  rcases le_total 0 x with h | h
  · exact mul_nonneg h h
  · rw [← neg_mul_neg]
    exact mul_nonneg (by simpa using h) (by simpa using h)

section
variable (e : ℝ) (he : 0 < e) (n ninv : EReal) (hn : ∀ x, Ideal.div x n = x * ninv)
  (b : P → Fin 11) (inside : P → Bool) (hv : Fin 11 → ℝ)
include he

theorem range_pos [Nonempty P] (h : P → ℝ) :
    0 < vmax (fun p => (h p : EReal)) - vmin (fun p => (h p : EReal)) + (e : EReal) := by
  obtain ⟨p, hp⟩ := exists_vmax fun p => (h p : EReal)
  obtain ⟨q, hq⟩ := exists_vmin fun p => (h p : EReal)
  have hle : (h q : EReal) ≤ (h p : EReal) := by rw [← hp]; exact le_vmax (fun p => (h p : EReal)) q
  rw [hp, hq, ← EReal.coe_sub, ← EReal.coe_add]
  have : h q ≤ h p := by exact_mod_cast hle
  exact_mod_cast (by linarith : (0 : ℝ) < h p - h q + e)

include hn in
/-- A pixel's value in the reference is its bin's value in the kernel, if the pixel is inside the wide border. -/
theorem perBin_eq [Nonempty P] (hout : ∃ p, inside p = false) (p : P) :
    (if inside p then perBin e ninv (count b fun _ => 1) (count b fun p => if inside p then 1 else 0) (fun j => hv j) (b p)
      else 0) = chain e n inside (fun p => (hv (b p) : EReal)) p := by
  set c := count b fun _ => (1 : EReal) with hc
  set ci := count b fun p => if inside p then (1 : EReal) else 0 with hci
  set f : Fin 11 → EReal := fun j => hv j with hf
  have one : ∀ _ : P, (0 : EReal) < 1 := fun _ => by simp
  have msk : ∀ p : P, (0 : EReal) ≤ if inside p then 1 else 0 := fun p => by split <;> simp
  have hL : ∀ f, least c f = vmin fun p => f (b p) := least_eq b _ one
  have hG : ∀ f, greatest c f = vmax fun p => f (b p) := greatest_eq b _ one
  have hM : ∀ f, mean ninv c f = Ideal.div (∑ p, f (b p)) n := fun f => by
    rw [hn, hc, mean_eq b _ (fun p => (one p).le)]; simp
  have hMi : ∀ f, mean ninv ci f = Ideal.div (∑ p, if inside p then f (b p) else 0) n := fun f => by
    rw [hn, hci, mean_eq b _ msk]
    simp only [ite_mul, one_mul, zero_mul]
  have h1 : ∀ p, b1 e c f (b p) = c1 e (fun p => f (b p)) p := fun p => by
    rw [b1, c1, unit, hL, hG]
  have h1' : (fun p => b1 e c f (b p)) = c1 e (fun p => f (b p)) := funext h1
  have hmm : Ideal.div (greatest c f - least c f) (greatest c f - least c f + e) = vmax (c1 e fun p => f (b p)) := by
    rw [hL, hG]
    have := vmax_mono (fun p => f (b p))
      (fun x => Ideal.div (x - vmin fun p => f (b p)) ((vmax fun p => f (b p)) - (vmin fun p => f (b p)) + e))
      (fun x y h => div_mono (range_pos e he fun p => hv (b p)) (EReal.sub_le_sub h le_rfl))
    exact this.symm
  have hw1 : bw1 e ninv c f = weight n (c1 e fun p => f (b p)) := by
    rw [bw1, weight, hmm, hM]
    simp only [h1]
  have h2 : ∀ p, b2 e ninv c f (b p) = c2 e n (fun p => f (b p)) p := fun p => by
    rw [b2, c2, hw1, h1]
  have h2' : (fun p => b2 e ninv c f (b p)) = c2 e n (fun p => f (b p)) := funext h2
  have hw2 : bw2 e ninv c f = weight n (c2 e n fun p => f (b p)) := by
    rw [bw2, weight, hM, hG, h2']
  have h3 : ∀ p, b3 e ninv c f (b p) = c3 e n (fun p => f (b p)) p := fun p => by
    rw [b3, c3, hw2, h2]
  have h3' : (fun p => b3 e ninv c f (b p)) = c3 e n (fun p => f (b p)) := funext h3
  have h4 : ∀ p, b4 e ninv c f (b p) = c4 e n (fun p => f (b p)) p := fun p => by
    rw [b4, c4, unit, hL, hG, h3', h3]
  have h5 : ∀ p, (if inside p then b5 e ninv c f (b p) else 0) = c5 e n inside (fun p => f (b p)) p := fun p => by
    rw [c5]
    by_cases hp : inside p
    · simp only [hp, if_true, b5, h4]
    · simp only [hp]; simp
  have h5' : (fun p => if inside p then b5 e ninv c f (b p) else 0) = c5 e n inside (fun p => f (b p)) := funext h5
  have nn : ∀ j, 0 ≤ b5 e ninv c f j := fun j => mul_self_nonneg' _
  have hmax : bmax e ninv c ci f = vmax (c5 e n inside fun p => f (b p)) := by
    rw [bmax, fold11_max, ← h5']
    have key : ∀ j, (0 < ci j ↔ ∃ p, b p = j ∧ inside p = true) := fun j => by
      rw [hci, count_pos b _ msk]
      refine exists_congr fun p => and_congr_right fun _ => ?_
      by_cases hp : inside p <;> simp [hp]
    obtain ⟨q, hq⟩ := hout
    refine le_antisymm (Finset.sup_le fun j _ => ?_) (Finset.sup_le fun p _ => ?_)
    · split
      · rename_i h
        obtain ⟨p, rfl, hp⟩ := (key _).1 h
        refine le_trans ?_ (le_vmax _ p)
        simp [hp]
      · refine le_trans ?_ (le_vmax _ q)
        simp [hq]
    · refine le_trans ?_ (Finset.le_sup (f := fun j => if 0 < ci j then b5 e ninv c f j else 0) (Finset.mem_univ (b p)))
      by_cases hp : inside p
      · simp only [hp, if_true]
        rw [if_pos ((key _).2 ⟨p, rfl, hp⟩)]
      · simp only [hp]
        simp only [Bool.false_eq_true, if_false]
        split
        · exact nn _
        · exact le_rfl
  have hw3 : bw3 e ninv c ci f = weight n (c5 e n inside fun p => f (b p)) := by
    rw [bw3, weight, hmax, hMi, Finset.sum_congr rfl fun p _ => h5 p]
  rw [chain, ← h5, perBin, hw3, mul_ite, mul_zero]

/-- The weighting of a constant does not depend on the constant. -/
theorem chain_const [Nonempty P] (r s : ℝ) :
    chain e n inside (fun _ : P => (r : EReal)) = chain e n inside (fun _ : P => (s : EReal)) := by
  have : ∀ r : ℝ, c1 (P := P) e (fun _ => (r : EReal)) = fun _ => Ideal.div 0 (e : EReal) := fun r => by
    funext p
    have hm : vmax (fun _ : P => (r : EReal)) = r := Finset.sup_const Finset.univ_nonempty _
    have hl : vmin (fun _ : P => (r : EReal)) = r := Finset.inf_const Finset.univ_nonempty _
    rw [c1, unit, hm, hl, ← EReal.coe_sub, sub_self]
    simp
  have h2 : c2 (P := P) e n (fun _ => (r : EReal)) = c2 e n (fun _ => (s : EReal)) := by
    funext p; simp only [c2, this]
  have h3 : c3 (P := P) e n (fun _ => (r : EReal)) = c3 e n (fun _ => (s : EReal)) := by
    funext p; simp only [c3, h2]
  have h5 : c5 (P := P) e n inside (fun _ => (r : EReal)) = c5 e n inside (fun _ => (s : EReal)) := by
    funext p; simp only [c5, c4, h3]
  funext p
  simp only [chain, h5]

end

end Rarity

end
-- ==== Proof.Hist.lean ====
/-
  The scaled image and its histogram. The kernel finds a pixel's bin by a floor, the reference by counting the edges that
  do not exceed it; the kernel scales by the greatest values found per channel, the reference by those found over the image.
-/
module

public import proofs.«01_k».proof.Proof.Chain

@[expose] public section

noncomputable section

namespace Rarity

open Idealize.ShloMosaic

variable {P : Type} [Fintype P]

/-! ## Scaling -/

/-- The image scaled to between 0 and 256, per channel. -/
def img (e : EReal) (X : P → EReal) (p : P) : EReal := unit e X p * ((256 : ℝ) : EReal)
/-- The greatest scaled value, from the channel's range. -/
def imgTop (e : EReal) (X : P → EReal) : EReal :=
  Ideal.div (vmax X - vmin X) (vmax X - vmin X + e) * ((256 : ℝ) : EReal)

section
variable (e : ℝ) (he : 0 < e) (X : P → EReal) (p₀ : P) (h₀ : X p₀ = 0)
include he h₀

theorem vmin_nonpos : vmin X ≤ 0 := h₀ ▸ vmin_le X p₀
theorem vmax_nonneg : 0 ≤ vmax X := h₀ ▸ le_vmax X p₀

/-- Either the range is infinite, or every value is real. -/
theorem range_cases : vmax X - vmin X + (e : EReal) = ⊤ ∨
    ∃ a b : ℝ, a ≤ 0 ∧ 0 ≤ b ∧ vmin X = a ∧ vmax X = b := by
  have hl := vmin_nonpos e he X p₀ h₀
  have hh := vmax_nonneg e he X p₀ h₀
  revert hl hh
  generalize vmin X = l
  generalize vmax X = g
  intro hl hh
  induction l using EReal.rec with
  | top => simp at hl
  | bot =>
    left
    induction g using EReal.rec with
    | bot => simp at hh
    | coe r => rw [EReal.coe_sub_bot, EReal.top_add_coe]
    | top => rfl
  | coe a =>
    induction g using EReal.rec with
    | bot => simp at hh
    | coe r => exact Or.inr ⟨a, r, by exact_mod_cast hl, by exact_mod_cast hh, rfl, rfl⟩
    | top => left; rw [EReal.top_sub_coe, EReal.top_add_coe]

theorem div_top' (x : EReal) : Ideal.div x ⊤ = 0 := by
  rw [Ideal.div, if_neg (by simp), EReal.inv_top, mul_zero]

theorem span_pos : 0 < vmax X - vmin X + (e : EReal) := by
  rcases range_cases e he X p₀ h₀ with h | ⟨a, b, ha, hb, hl, hg⟩
  · rw [h]; exact EReal.zero_lt_top
  · rw [hl, hg]
    exact_mod_cast (by linarith : (0 : ℝ) < b - a + e)

theorem img_real (p : P) : ∃ y : ℝ, 0 ≤ y ∧ img e X p = y := by
  rcases range_cases e he X p₀ h₀ with h | ⟨a, b, ha, hb, hl, hg⟩
  · refine ⟨0, le_rfl, ?_⟩
    rw [img, unit, h, div_top' e he X p₀ h₀, zero_mul]; rfl
  · have h1 : (a : EReal) ≤ X p := hl ▸ vmin_le X p
    have h2 : X p ≤ (b : EReal) := hg ▸ le_vmax X p
    have h3 : X p ≠ ⊤ := fun h => by rw [h] at h2; simp at h2
    have h4 : X p ≠ ⊥ := fun h => by rw [h] at h1; simp at h1
    lift X p to ℝ using ⟨h3, h4⟩ with x hx
    have h5 : a ≤ x := by exact_mod_cast h1
    have hd : (0 : ℝ) < b - a + e := by linarith
    refine ⟨(x - a) * (1 / (b - a + e)) * 256, by have := sub_nonneg.2 h5; positivity, ?_⟩
    rw [img, unit, ← hx, hl, hg, ← EReal.coe_sub, ← EReal.coe_sub, ← EReal.coe_add, Ideal.div_coe hd.ne',
      ← EReal.coe_mul, ← EReal.coe_mul]

theorem vmax_img [Nonempty P] : vmax (img e X) = imgTop e X :=
  vmax_mono X (fun x => Ideal.div (x - vmin X) (vmax X - vmin X + (e : EReal)) * ((256 : ℝ) : EReal)) fun x y h =>
    mul_le_mul_of_nonneg_right (div_mono (span_pos e he X p₀ h₀) (EReal.sub_le_sub h le_rfl)) (by positivity)

theorem exists_img_zero [Nonempty P] : ∃ p, img e X p = 0 := by
  obtain ⟨p, hp⟩ := exists_vmin X
  refine ⟨p, ?_⟩
  rcases range_cases e he X p₀ h₀ with h | ⟨a, b, ha, hb, hl, hg⟩
  · rw [img, unit, h, div_top' e he X p₀ h₀, zero_mul]
  · have hd : (0 : ℝ) < b - a + e := by linarith
    rw [img, unit, ← hp, hl, hg, ← EReal.coe_sub, ← EReal.coe_sub, ← EReal.coe_add, Ideal.div_coe hd.ne', sub_self]
    simp

end

/-! ## Bins -/

/-- The kernel's bin of a value. -/
def kBin (M y : EReal) : EReal :=
  min (Ideal.liftRound Int.floor (y * Ideal.div ((11 : ℝ) : EReal) M)) ((10 : ℝ) : EReal)
/-- The reference's edges … -/
def edge (m M : EReal) (k : Fin 12) : EReal :=
  if k.val < 11 then
    m * (1 - Ideal.div (((k.val : ℝ)) : EReal) ((11 : ℝ) : EReal)) + M * Ideal.div (((k.val : ℝ)) : EReal) ((11 : ℝ) : EReal)
  else M
/-- … and its bin of a value. -/
def rBin (m M y : EReal) : EReal :=
  min ((10 : ℝ) : EReal) (max 0 ((∑ k : Fin 12, if edge m M k ≤ y then (1 : EReal) else 0) - 1))

theorem edge_zero (M : ℝ) (k : Fin 12) : edge 0 M k = ((k.val * M / 11 : ℝ) : EReal) := by
  rw [edge]
  split
  · rw [zero_mul, zero_add, Ideal.div_coe (by norm_num), ← EReal.coe_mul, ← EReal.coe_mul]
    congr 1; ring
  · have : k.val = 11 := by omega
    rw [this]; congr 1; push_cast; ring

theorem sum_ite_coe {ι : Type} (s : Finset ι) (q : ι → Prop) [DecidablePred q] :
    (∑ k ∈ s, if q k then (1 : EReal) else 0) = ((∑ k ∈ s, if q k then (1 : ℝ) else 0 : ℝ) : EReal) := by
  classical
  induction s using Finset.induction_on with
  | empty => simp
  | insert a s ha ih =>
    rw [Finset.sum_insert ha, Finset.sum_insert ha, ih, EReal.coe_add]
    split <;> simp

theorem coe_max' (a b : ℝ) : max (a : EReal) b = ((max a b : ℝ) : EReal) := (EReal.coe_strictMono.monotone.map_max).symm
theorem coe_min' (a b : ℝ) : min (a : EReal) b = ((min a b : ℝ) : EReal) := (EReal.coe_strictMono.monotone.map_min).symm

/-- How many of the twelve edges' numbers do not exceed `q`. -/
theorem edges_le (q : ℤ) (h0 : 0 ≤ q) (h1 : q ≤ 11) :
    (∑ k : Fin 12, if (k.val : ℤ) ≤ q then (1 : ℝ) else 0) = q + 1 := by
  have : (Finset.univ.filter fun k : Fin 12 => (k.val : ℤ) ≤ q).card = q.toNat + 1 := by
    interval_cases q <;> decide
  rw [Finset.sum_boole, this]
  have h : (q.toNat : ℤ) = q := Int.toNat_of_nonneg h0
  push_cast
  congr 1
  exact_mod_cast h

theorem rBin_real (M y : ℝ) (hM : 0 < M) (hy : 0 ≤ y) (hyM : y ≤ M) :
    rBin 0 M y = ((min 10 ⌊y * 11 / M⌋ : ℤ) : ℝ) := by
  have hz : 0 ≤ y * 11 / M := by positivity
  have hz' : y * 11 / M ≤ 11 := by rw [div_le_iff₀ hM]; linarith
  have hq0 : 0 ≤ ⌊y * 11 / M⌋ := Int.floor_nonneg.2 hz
  have hq1 : ⌊y * 11 / M⌋ ≤ 11 := by
    have : (⌊y * 11 / M⌋ : ℝ) ≤ 11 := (Int.floor_le _).trans hz'
    exact_mod_cast this
  have hle : ∀ k : Fin 12, (edge 0 M k ≤ (y : EReal)) ↔ (k.val : ℤ) ≤ ⌊y * 11 / M⌋ := fun k => by
    rw [edge_zero, EReal.coe_le_coe_iff, Int.le_floor, le_div_iff₀ hM, div_le_iff₀ (by norm_num : (0 : ℝ) < 11)]
    push_cast; exact Iff.rfl
  rw [rBin]
  simp only [hle]
  generalize ⌊y * 11 / M⌋ = q at hq0 hq1
  rw [sum_ite_coe, edges_le q hq0 hq1, ← EReal.coe_one, ← EReal.coe_zero, ← EReal.coe_sub, coe_max', coe_min',
    add_sub_cancel_right, max_eq_right (by exact_mod_cast hq0)]
  push_cast
  rfl

theorem kBin_real (M y : ℝ) (hM : 0 < M) : kBin M y = ((min 10 ⌊y * 11 / M⌋ : ℤ) : ℝ) := by
  rw [kBin, Ideal.div_coe hM.ne', ← EReal.coe_mul, ← EReal.coe_mul]
  have : y * (11 * (1 / M)) = y * 11 / M := by ring
  rw [this]
  change min (((⌊y * 11 / M⌋ : ℤ) : ℝ) : EReal) ((10 : ℝ) : EReal) = _
  rw [min_comm]
  push_cast
  rfl

/-- The bin, if the image is not constant. -/
theorem bin_mem (M y : ℝ) (hM : 0 < M) (hy : 0 ≤ y) : ∃ k : Fin 11, kBin M y = ((k.val : ℝ) : EReal) := by
  have hq0 : 0 ≤ ⌊y * 11 / M⌋ := Int.floor_nonneg.2 (by positivity)
  refine ⟨⟨(min 10 ⌊y * 11 / M⌋).toNat, by omega⟩, ?_⟩
  rw [kBin_real M y hM]
  congr 1
  have : ((min 10 ⌊y * 11 / M⌋).toNat : ℤ) = min 10 ⌊y * 11 / M⌋ := by omega
  exact_mod_cast this.symm

/-! ## Histograms -/

section
variable (N c : EReal)
/-- The histogram of given bins. -/
def hist (q : P → EReal) (j : Fin 11) : EReal := ∑ p, if q p = ((j.val : ℝ) : EReal) then (1 : EReal) else 0
/-- The kernel's logarithm … -/
def kHv (q : P → EReal) (j : Fin 11) : EReal := 0 - Ideal.log (Ideal.div (hist q j) N + c)
/-- … and the reference's. -/
def rHv (q : P → EReal) (j : Fin 11) : EReal := -Ideal.log (Ideal.div (hist q j) (∑ j, hist q j) + c)
end

theorem hist_real (q : P → EReal) (j : Fin 11) : ∃ r : ℝ, 0 ≤ r ∧ hist q j = r :=
  ⟨_, Finset.sum_nonneg fun p _ => by split <;> simp, sum_ite_coe _ _⟩

theorem hist_total (q : P → EReal) (hq : ∀ p, ∃ k : Fin 11, q p = ((k.val : ℝ) : EReal)) :
    ∑ j, hist q j = ((Fintype.card P : ℝ) : EReal) := by
  simp only [hist]
  rw [Finset.sum_comm]
  have : ∀ p, (∑ j : Fin 11, if q p = ((j.val : ℝ) : EReal) then (1 : EReal) else 0) = 1 := fun p => by
    obtain ⟨k, hk⟩ := hq p
    rw [hk, Finset.sum_eq_single k]
    · simp
    · intro j _ hj
      rw [if_neg]
      intro h
      apply hj
      have : k.val = j.val := by exact_mod_cast h
      exact (Fin.ext this).symm
    · simp
  simp only [this]
  have h := sum_ite_coe (Finset.univ : Finset P) fun _ => True
  simpa using h

section
variable (N c : ℝ) (hN : 0 < N) (hc : 0 < c)
include hN hc

theorem kHv_real (q : P → EReal) (j : Fin 11) : ∃ r : ℝ, kHv N c q j = r := by
  obtain ⟨r, hr, h⟩ := hist_real q j
  rw [kHv, h, Ideal.div_coe hN.ne', ← EReal.coe_mul, ← EReal.coe_add]
  have hpos : 0 < r * (1 / N) + c := by positivity
  refine ⟨-Real.log (r * (1 / N) + c), ?_⟩
  change (0 : EReal) - (if r * (1 / N) + c ≤ 0 then ⊥ else ((Real.log (r * (1 / N) + c) : ℝ) : EReal)) = _
  rw [if_neg (not_le.2 hpos), zero_sub, EReal.coe_neg]

theorem rHv_eq (hcard : (Fintype.card P : ℝ) = N) (q : P → EReal) (hq : ∀ p, ∃ k : Fin 11, q p = ((k.val : ℝ) : EReal))
    (j : Fin 11) : rHv c q j = kHv N c q j := by
  rw [rHv, kHv, hist_total q hq, hcard, zero_sub]

end

/-- The two weightings of one channel agree: `Y` the scaled channel, `M` the image's greatest scaled value, `b` the bins
    that are looked up. -/
theorem chain_hist [Nonempty P] (e : ℝ) (he : 0 < e) (n : EReal) (inside : P → Bool) (N c : ℝ) (hN : 0 < N) (hc : 0 < c)
    (hcard : (Fintype.card P : ℝ) = N) (Y : P → EReal) (hY : ∀ p, ∃ y : ℝ, 0 ≤ y ∧ Y p = y) (M : ℝ) (hM : ∀ p, Y p ≤ M)
    (b : P → Fin 11) (hb : (∀ p, Y p = 0) → ∀ p, b p = 0) :
    chain e n inside (fun p => rHv c (fun p => rBin 0 M (Y p)) (b p))
      = chain e n inside (fun p => kHv N c (fun p => kBin M (Y p)) (b p)) := by
  rcases lt_or_ge 0 M with h | h
  · have hbin : (fun p => rBin 0 M (Y p)) = fun p => kBin M (Y p) := funext fun p => by
      obtain ⟨y, hy, hYy⟩ := hY p
      have := hM p
      rw [hYy] at this ⊢
      rw [rBin_real M y h hy (by exact_mod_cast this), kBin_real M y h]
    rw [hbin]
    congr 1
    funext p
    refine rHv_eq N c hN hc hcard _ (fun p => ?_) _
    obtain ⟨y, hy, hYy⟩ := hY p
    rw [hYy]
    exact bin_mem M y h hy
  · have hY0 : ∀ p, Y p = 0 := fun p => by
      obtain ⟨y, hy, hYy⟩ := hY p
      have := hM p
      rw [hYy] at this ⊢
      have h' : y ≤ M := by exact_mod_cast this
      have : y = 0 := le_antisymm (h'.trans h) hy
      rw [this]; rfl
    have hM0 : M = 0 := by
      obtain ⟨p⟩ := (inferInstance : Nonempty P)
      have := hM p
      rw [hY0 p] at this
      exact le_antisymm h (by exact_mod_cast this)
    simp only [hb hY0]
    obtain ⟨r, hr⟩ := kHv_real N c hN hc (fun p => kBin M (Y p)) 0
    have hq : ∀ p, ∃ k : Fin 11, rBin 0 M (Y p) = ((k.val : ℝ) : EReal) := fun p => by
      refine ⟨10, ?_⟩
      rw [hY0 p, hM0, rBin]
      have : ∀ k : Fin 12, edge 0 ((0 : ℝ) : EReal) k ≤ 0 := fun k => by rw [edge_zero]; simp
      simp only [this, if_true]
      have h12 := sum_ite_coe (Finset.univ : Finset (Fin 12)) fun _ => True
      simp only [if_true] at h12
      rw [h12, ← EReal.coe_one, ← EReal.coe_zero, ← EReal.coe_sub, coe_max', coe_min']
      congr 1
      norm_num
    obtain ⟨s, hs⟩ := kHv_real N c hN hc (fun p => rBin 0 M (Y p)) 0
    rw [rHv_eq N c hN hc hcard _ hq, hr, hs]
    exact chain_const e he n inside s r

end Rarity

end
-- ==== Proof.Consts.lean ====
/-
  The values of the constants, and reductions of all of an array's elements.
-/
module

public import proofs.«01_k».proof.Proof.Hist
public import Idealize.ShloMosaic.Lib.Pointwise

@[expose] public section

noncomputable section

namespace Rarity

open Idealize.ShloMosaic

/-- The small number that keeps a divisor positive. -/
def eps : ℝ := (2 : ℝ) ^ (-50 : ℤ) * 11258999

theorem eps_pos : 0 < eps := by unfold eps; positivity

theorem ofBits_eps : Ideal.ofBits .f32 0x322BCC77#32 = (eps : EReal) := by
  simp [Ideal.ofBits, Ideal.ieee, -EReal.coe_mul, eps]; norm_num
theorem exists_tiny : ∃ c : ℝ, 0 < c ∧ Ideal.ofBits .f32 0x38D1B717#32 = (c : EReal) := by
  refine ⟨_, ?_, by simp [Ideal.ofBits, Ideal.ieee, -EReal.coe_mul]; rfl⟩
  norm_num
theorem ofBits_256 : Ideal.ofBits .f32 0x43800000#32 = ((256 : ℝ) : EReal) := by
  simp [Ideal.ofBits, Ideal.ieee, -EReal.coe_mul]; norm_num
theorem ofBits_255 : Ideal.ofBits .f32 0x437F0000#32 = ((255 : ℝ) : EReal) := by
  simp [Ideal.ofBits, Ideal.ieee, -EReal.coe_mul]; norm_num
theorem ofBits_3136 : Ideal.ofBits .f32 0x45440000#32 = ((3136 : ℝ) : EReal) := by
  simp [Ideal.ofBits, Ideal.ieee, -EReal.coe_mul]; norm_num
theorem ofBits_57600 : Ideal.ofBits .f32 0x47610000#32 = ((57600 : ℝ) : EReal) := by
  simp [Ideal.ofBits, Ideal.ieee, -EReal.coe_mul]; norm_num
theorem ofBits_11 : Ideal.ofBits .f32 0x41300000#32 = ((11 : ℝ) : EReal) := by
  simp [Ideal.ofBits, Ideal.ieee, -EReal.coe_mul]; norm_num
theorem ofBits_10 : Ideal.ofBits .f32 0x41200000#32 = ((10 : ℝ) : EReal) := by
  simp [Ideal.ofBits, Ideal.ieee, -EReal.coe_mul]; norm_num
theorem ofBits_top : Ideal.ofBits .f32 0x7F800000#32 = ⊤ := by
  simp [Ideal.ofBits, Ideal.ieee, -EReal.coe_mul]
theorem ofBits_bot : Ideal.ofBits .f32 0xFF800000#32 = ⊥ := by
  simp [Ideal.ofBits, Ideal.ieee, -EReal.coe_mul]

/-- The bins' numbers as float words … -/
def binF : Fin 11 → BitVec 32 :=
  ![0x00000000#32, 0x3F800000#32, 0x40000000#32, 0x40400000#32, 0x40800000#32, 0x40A00000#32, 0x40C00000#32,
    0x40E00000#32, 0x41000000#32, 0x41100000#32, 0x41200000#32]
/-- … and as integer words. -/
def binI : Fin 11 → BitVec 32 := ![0#32, 1#32, 2#32, 3#32, 4#32, 5#32, 6#32, 7#32, 8#32, 9#32, 10#32]

theorem ofBits_binF (j : Fin 11) : Ideal.ofBits .f32 (binF j) = ((j.val : ℝ) : EReal) := by
  fin_cases j <;> simp [binF, Ideal.ofBits, Ideal.ieee, -EReal.coe_mul] <;> norm_num

/-- A choice by a comparison's bit. -/
theorem select_ofBool {α : Type} (q : Prop) [Decidable q] (a b : α) :
    Scalar.select (BitVec.ofBool (decide q)) a b = if q then a else b := by
  by_cases h : q <;> simp [Scalar.select, h]

theorem binI_inj : Function.Injective binI := by decide

/-- A clamped word is a bin's number. -/
theorem clamp_mem (w : BitVec 32) : ∃ j : Fin 11, IntOp.minsi 10#32 (IntOp.maxsi 0#32 w) = binI j := by
  have hall : ∀ n : Fin 11, BitVec.ofNat 32 n.val = binI n := by decide
  by_cases h0 : w.slt 0#32
  · have h : w.toInt < 0 := by simpa [BitVec.slt] using h0
    exact ⟨0, by simp [IntOp.minsi, IntOp.maxsi, h, binI, BitVec.slt]⟩
  by_cases h1 : (10#32).slt w
  · exact ⟨10, by simp [IntOp.minsi, IntOp.maxsi, h0, h1, binI]⟩
  have hn : w.toNat < 11 := by
    simp only [BitVec.slt, BitVec.toInt_eq_toNat_cond, decide_eq_true_eq] at h0 h1
    have := w.isLt
    simp at h0 h1
    omega
  refine ⟨⟨w.toNat, hn⟩, ?_⟩
  rw [← hall]
  simp [IntOp.minsi, IntOp.maxsi, h0, h1]
/-- The word zero is the first bin's number. -/
theorem clamp_zero : IntOp.minsi 10#32 (IntOp.maxsi 0#32 0#32) = binI 0 := by decide

theorem fold_min_top {P : Type} [Fintype P] (f : P → EReal) :
    Finset.fold min (Ideal.ofBits .f32 0x7F800000#32) f Finset.univ = vmin f := by
  rw [ofBits_top]; rfl
theorem fold_max_bot {P : Type} [Fintype P] (f : P → EReal) :
    Finset.fold max (Ideal.ofBits .f32 0xFF800000#32) f Finset.univ = vmax f := by
  rw [ofBits_bot]; rfl

theorem idx_unique {t : Shape} (ht : ∀ b, t.size b = 1) (i i' : t.Idx) : i = i' :=
  funext fun b => Fin.ext (by
    have h := (i b).isLt
    have h' := (i' b).isLt
    have hb := ht b
    omega)
/-- The least of all of an array's elements … -/
theorem min_total {s t : Shape} {axes : List (Fin s.rank)} (x : FVec Ideal s .f32) (h hφ hacc) (ht : ∀ b, t.size b = 1) (j : t.Idx) :
    multiReduction (F := Ideal) .minimumf axes t x 0x7F800000#32 h hφ hacc j = vmin x := by
  rw [multiReduction_minimumf_eq_fold, Finset.filter_true_of_mem fun i _ => idx_unique ht _ _]
  exact fold_min_top x
/-- … and the greatest. -/
theorem max_total {s t : Shape} {axes : List (Fin s.rank)} (x : FVec Ideal s .f32) (h hφ hacc) (ht : ∀ b, t.size b = 1) (j : t.Idx) :
    multiReduction (F := Ideal) .maximumf axes t x 0xFF800000#32 h hφ hacc j = vmax x := by
  rw [multiReduction_maximumf_eq_fold, Finset.filter_true_of_mem fun i _ => idx_unique ht _ _]
  exact fold_max_bot x

theorem vmin_equiv {P Q : Type} [Fintype P] [Fintype Q] (σ : P ≃ Q) (f : Q → EReal) : (vmin fun p => f (σ p)) = vmin f :=
  le_antisymm (Finset.le_inf fun q _ => by simpa using vmin_le (fun p => f (σ p)) (σ.symm q))
    (Finset.le_inf fun p _ => vmin_le f (σ p))
theorem vmax_equiv {P Q : Type} [Fintype P] [Fintype Q] (σ : P ≃ Q) (f : Q → EReal) : (vmax fun p => f (σ p)) = vmax f :=
  le_antisymm (Finset.sup_le fun p _ => le_vmax f (σ p))
    (Finset.sup_le fun q _ => by simpa using le_vmax (fun p => f (σ p)) (σ.symm q))

end Rarity

end
-- ==== Proof.Bins.lean ====
/-
  The rarity kernel's arithmetic for one batch element, in stages. A stage is a function of what the body loads (the two
  masks, the batch element's 192 channels of 3136 pixels) and of `11 / maximum`, so the four batch elements share one text;
  a value that the kernel computes once per bin is a function of the bin.
-/
module

public import proofs.«01_k».proof.Proof.Gen.KernelIdeal.Skeleton
public import proofs.«01_k».proof.Proof.Consts

@[expose] public section

noncomputable section

namespace Cert.KernelIdeal.Own

open Idealize.ShloMosaic Cert.KernelIdeal Cert.KernelIdeal.Gen
open Rarity (binF binI fold11)

variable {F : FTy → Type} [FloatOps F] [Named F]

/-- One constant per channel … -/
abbrev col (w : BitVec 32) : FVec F S192x1 .f32 := broadcast S192x1 (Scalar.ofBits .f32 w)
/-- … and per channel and pixel. -/
abbrev mat (w : BitVec 32) : FVec F S192x3136 .f32 := broadcast S192x3136 (Scalar.ofBits .f32 w)
/-- A value per channel, copied along the pixels. -/
abbrev wide (x : FVec F S192x1 .f32) : FVec F S192x3136 .f32 := broadcastTo S192x3136 x broadcasts_S192x1_S192x3136
/-- The sum along the pixels. -/
abbrev rowSum (x : FVec F S192x3136 .f32) : FVec F S192x1 .f32 :=
  shapeCast S192x1 (multiReduction .add [1] S192 x 0x00000000#32 reduces_S192x3136_S192 (.inl rfl) rfl) shapeCasts_S192_S192x1

section Batch
variable (v0 v1 : Vec F S1x3136 .f32) (xb : Vec F S1x1x192x3136 .f32) (iv : FVec F S1x1 .f32) (j : Fin 11)

/-- The channels with their border set to zero. -/
def inner : FVec F S192x3136 .f32 :=
  mulf (shapeCast S192x3136 xb shapeCasts_S1x1x192x3136_S192x3136) (broadcastTo S192x3136 v0 broadcasts_S1x3136_S192x3136)
/-- The least value of each channel … -/
def lo : FVec F S192x1 .f32 :=
  shapeCast S192x1 (multiReduction .minimumf [1] S192 (inner v0 xb) 0x7F800000#32 reduces_S192x3136_S192 (.inl rfl) rfl)
    shapeCasts_S192_S192x1
/-- … and the greatest. -/
def hi : FVec F S192x1 .f32 :=
  shapeCast S192x1 (multiReduction .maximumf [1] S192 (inner v0 xb) 0xFF800000#32 reduces_S192x3136_S192 (.inl rfl) rfl)
    shapeCasts_S192_S192x1
/-- The greatest scaled value over the batch element. -/
def top : FVec F S1x1 .f32 :=
  broadcast S1x1 (extractAt ![0, 0, 0]
    (shapeCast S1x1x1
      (multiReduction .maximumf [1, 2] S1
        (shapeCast S1x192x1
          (mulf (divf (subf (hi v0 xb) (lo v0 xb)) (addf (subf (hi v0 xb) (lo v0 xb)) (col 0x322BCC77#32))) (col 0x43800000#32))
          shapeCasts_S192x1_S1x192x1)
        0xFF800000#32 reduces_S1x192x1_S1 (.inl rfl) rfl)
      shapeCasts_S1_S1x1x1)
    inpos_S1x1x1_p0_0_0)
/-- The scaled values. -/
def scaled : FVec F S192x3136 .f32 :=
  mulf (divf (subf (inner v0 xb) (wide (lo v0 xb))) (wide (addf (subf (hi v0 xb) (lo v0 xb)) (col 0x322BCC77#32))))
    (mat 0x43800000#32)
/-- The bin of the histogram, as a float. -/
def bin1 : FVec F S192x3136 .f32 :=
  minimumf (floor (mulf (scaled v0 xb) (broadcastTo S192x3136 iv broadcasts_S1x1_S192x3136))) (mat 0x41200000#32)
/-- The bin that is looked up, as an integer. -/
def bin2 : IVec S192x3136 32 :=
  minsi (broadcast S192x3136 10#32)
    (maxsi (broadcast S192x3136 0#32)
      (fptosi 32 (mulf (divf (scaled v0 xb) (mat 0x43800000#32)) (mat 0x41200000#32))))
/-- One at the pixels of the bin that is looked up. -/
def isBin : FVec F S192x3136 .f32 :=
  select (cmpi .eq (bin2 v0 xb) (broadcast S192x3136 (binI j))) (mat 0x3F800000#32) (mat 0x00000000#32)
/-- The histogram. -/
def hist : FVec F S192x1 .f32 :=
  rowSum (select (cmpf .oeq (bin1 v0 xb iv) (mat (binF j))) (mat 0x3F800000#32) (mat 0x00000000#32))
/-- How many pixels look the bin up … -/
def cnt : FVec F S192x1 .f32 := rowSum (isBin v0 xb j)
/-- … and how many of them lie inside the wide border. -/
def cntIn : FVec F S192x1 .f32 :=
  rowSum (mulf (isBin v0 xb j) (broadcastTo S192x3136 v1 broadcasts_S1x3136_S192x3136))
/-- Minus the logarithm of the bin's frequency. -/
def neglog : FVec F S192x1 .f32 :=
  subf (col 0x00000000#32) (log (addf (divf (hist v0 xb iv j) (col 0x45440000#32)) (col 0x38D1B717#32)))
/-- Whether some pixel looks the bin up. -/
def occ : IVec S192x1 1 := cmpf .ogt (cnt v0 xb j) (col 0x00000000#32)
/-- The least of a value over the bins that are looked up … -/
def least (f : Fin 11 → FVec F S192x1 .f32) : FVec F S192x1 .f32 :=
  fold11 minimumf fun j => select (occ v0 xb j) (f j) (broadcast S192x1 (Named.named κ "big" 0x7F61B1E6#32))
/-- … and the greatest. -/
def greatest (f : Fin 11 → FVec F S192x1 .f32) : FVec F S192x1 .f32 :=
  fold11 maximumf fun j => select (occ v0 xb j) (f j)
    (broadcast S192x1 (Scalar.subf (Scalar.ofBits .f32 0x00000000#32) (Named.named κ "big" 0x7F61B1E6#32)))
/-- The mean over the pixels of a value per bin. -/
def meanOf (c f : Fin 11 → FVec F S192x1 .f32) : FVec F S192x1 .f32 :=
  mulf (fold11 addf fun j => mulf (c j) (f j)) (broadcast S192x1 (Named.named κ "inv_pix" 0x39A72F05#32))
/-- The square of a difference. -/
def sqDiff (a b : FVec F S192x1 .f32) : FVec F S192x1 .f32 := mulf (subf a b) (subf a b)

def dmin : FVec F S192x1 .f32 := least v0 xb fun j => neglog v0 xb iv j
def dmax : FVec F S192x1 .f32 := greatest v0 xb fun j => neglog v0 xb iv j
def dden : FVec F S192x1 .f32 := addf (subf (dmax v0 xb iv) (dmin v0 xb iv)) (col 0x322BCC77#32)
/-- The bin's value, scaled to between 0 and 1. -/
def g1 : FVec F S192x1 .f32 := divf (subf (neglog v0 xb iv j) (dmin v0 xb iv)) (dden v0 xb iv)
def w1 : FVec F S192x1 .f32 :=
  sqDiff (divf (subf (dmax v0 xb iv) (dmin v0 xb iv)) (dden v0 xb iv)) (meanOf (fun j => cnt v0 xb j) fun j => g1 v0 xb iv j)
def g2 : FVec F S192x1 .f32 :=
  mulf (mulf (g1 v0 xb iv j) (w1 v0 xb iv)) (mulf (g1 v0 xb iv j) (w1 v0 xb iv))
def w2 : FVec F S192x1 .f32 :=
  sqDiff (greatest v0 xb fun j => g2 v0 xb iv j) (meanOf (fun j => cnt v0 xb j) fun j => g2 v0 xb iv j)
def g3 : FVec F S192x1 .f32 := mulf (w2 v0 xb iv) (g2 v0 xb iv j)
def tmin : FVec F S192x1 .f32 := least v0 xb fun j => g3 v0 xb iv j
def tmax : FVec F S192x1 .f32 := greatest v0 xb fun j => g3 v0 xb iv j
def tden : FVec F S192x1 .f32 := addf (subf (tmax v0 xb iv) (tmin v0 xb iv)) (col 0x322BCC77#32)
def g4 : FVec F S192x1 .f32 := divf (subf (g3 v0 xb iv j) (tmin v0 xb iv)) (tden v0 xb iv)
def g5 : FVec F S192x1 .f32 := mulf (g4 v0 xb iv j) (g4 v0 xb iv j)
/-- Whether some pixel inside the wide border looks the bin up. -/
def occIn : IVec S192x1 1 := cmpf .ogt (cntIn v0 v1 xb j) (col 0x00000000#32)
def ma : FVec F S192x1 .f32 :=
  fold11 maximumf fun j => select (occIn v0 v1 xb j) (g5 v0 xb iv j) (col 0x00000000#32)
def w3 : FVec F S192x1 .f32 :=
  sqDiff (ma v0 v1 xb iv) (meanOf (fun j => cntIn v0 v1 xb j) fun j => g5 v0 xb iv j)
def g6 : FVec F S192x1 .f32 := mulf (w3 v0 v1 xb iv) (g5 v0 xb iv j)
/-- Each pixel's bin's value. -/
def lookup : FVec F S192x3136 .f32 :=
  fold11 addf fun j => select (cmpi .eq (bin2 v0 xb) (broadcast S192x3136 (binI j)))
    (wide (shapeCast S192x1 (g6 v0 v1 xb iv j) shapeCasts_S192x1_S192x1)) (mat 0x00000000#32)
/-- What the body stores for the batch element: the channels' sum, the wide border set to zero. -/
def piece : FVec F S1x1x3136 .f32 :=
  shapeCast S1x1x3136
    (mulf (shapeCast S1x3136
        (multiReduction .add [0] S3136 (lookup v0 v1 xb iv) 0x00000000#32 reduces_S192x3136_S3136 (.inl rfl) rfl)
        shapeCasts_S3136_S1x3136) v1)
    shapeCasts_S1x3136_S1x1x3136

end Batch

/-- `11 / maximum`, the maximum over the four batch elements. -/
def invStep (v0 : Vec F S1x3136 .f32) (a b c d : Vec F S1x1x192x3136 .f32) : FVec F S1x1 .f32 :=
  divf (broadcast S1x1 (Scalar.ofBits .f32 0x41300000#32))
    (maximumf (maximumf (maximumf (top v0 a) (top v0 b)) (top v0 c)) (top v0 d))

end Cert.KernelIdeal.Own

end
-- ==== Proof.PieceAt.lean ====
/-
  The rarity kernel's stages, read at their indices at the extended reals.
-/
module

public import proofs.«01_k».proof.Proof.Bins
public import proofs.«01_k».proof.Proof.Hist
public import Idealize.ShloMosaic.Lib.Pointwise

@[expose] public section

noncomputable section

namespace Cert.KernelIdeal.Own

open Idealize.ShloMosaic Cert.KernelIdeal Cert.KernelIdeal.Gen
open Rarity (vmin vmax eps binI binF fold11)

variable (v0 v1 : Vec Ideal S1x3136 .f32) (xb : Vec Ideal S1x1x192x3136 .f32) (iv : FVec Ideal S1x1 .f32)
  (k : Fin 192) (p : Fin 3136) (j : Fin 11)

/-- A channel with its border set to zero. -/
def chan (p : Fin 3136) : EReal := xb (ix4 0 0 k p) * v0 (ix2 0 p)

theorem inner_at : inner v0 xb (ix2 k p) = chan v0 xb k p := by
  unfold inner chan
  pointwise

theorem lo_at : lo v0 xb (ix2 k 0) = vmin (chan v0 xb k) := by
  unfold lo
  pointwise
  simp only [inner_at]
  exact Rarity.fold_min_top _

theorem hi_at : hi v0 xb (ix2 k 0) = vmax (chan v0 xb k) := by
  unfold hi
  pointwise
  simp only [inner_at]
  exact Rarity.fold_max_bot _

theorem top_of (x : FVec Ideal S1x192x1 .f32) :
    broadcast S1x1 (extractAt ![0, 0, 0]
      (shapeCast S1x1x1 (multiReduction .maximumf [1, 2] S1 x 0xFF800000#32 reduces_S1x192x1_S1 (.inl rfl) rfl)
        shapeCasts_S1_S1x1x1) inpos_S1x1x1_p0_0_0) (ix2 0 0) = vmax x := by
  have h : multiReduction .maximumf [1, 2] S1 x 0xFF800000#32 reduces_S1x192x1_S1 (.inl rfl) rfl = fun _ => vmax x :=
    funext fun j => Rarity.max_total x reduces_S1x192x1_S1 (.inl rfl) rfl (fun b => match b with | ⟨0, _⟩ => rfl) j
  rw [h]
  rfl

theorem top_at : top v0 xb (ix2 0 0) = vmax fun k => Rarity.imgTop eps (chan v0 xb k) := by
  unfold top
  refine (top_of _).trans ?_
  have h : ∀ k : Fin 192, shapeCast S1x192x1
          (mulf (divf (subf (hi v0 xb) (lo v0 xb)) (addf (subf (hi v0 xb) (lo v0 xb)) (col 0x322BCC77#32))) (col 0x43800000#32))
          shapeCasts_S192x1_S1x192x1 (ix3 0 k 0) = Rarity.imgTop eps (chan v0 xb k) := fun k => by
    pointwise
    simp only [hi_at, lo_at, Rarity.ofBits_eps, Rarity.ofBits_256]
    rfl
  refine le_antisymm (Finset.sup_le fun i _ => ?_) (Finset.sup_le fun k _ => ?_)
  · obtain ⟨k, rfl⟩ : ∃ k : Fin 192, i = ix3 0 k 0 := ⟨i 1, funext fun b => by
      match b with
      | 0 => exact Fin.ext (by have := (i 0).isLt; change (i 0).val < 1 at this; change (i 0).val = 0; omega)
      | 1 => rfl
      | 2 => exact Fin.ext (by have := (i 2).isLt; change (i 2).val < 1 at this; change (i 2).val = 0; omega)⟩
    rw [h]
    exact Rarity.le_vmax (fun k => Rarity.imgTop eps (chan v0 xb k)) k
  · rw [← h]
    exact Rarity.le_vmax _ (ix3 0 k 0)

theorem scaled_at : scaled v0 xb (ix2 k p) = Rarity.img eps (chan v0 xb k) p := by
  unfold scaled
  pointwise
  simp only [inner_at, lo_at, hi_at, Rarity.ofBits_eps, Rarity.ofBits_256]
  rfl

theorem bin1_at : bin1 v0 xb iv (ix2 k p) =
    min (Ideal.liftRound Int.floor (Rarity.img eps (chan v0 xb k) p * iv (ix2 0 0))) ((10 : ℝ) : EReal) := by
  unfold bin1
  pointwise
  simp only [scaled_at, Rarity.ofBits_10]

theorem row_at (x : FVec Ideal S192x3136 .f32) : rowSum x (ix2 k 0) = ∑ p, x (ix2 k p) := by
  pointwise

/-- The word of the bin a value looks up. -/
def word (y : EReal) : BitVec 32 :=
  IntOp.minsi 10#32 (IntOp.maxsi 0#32 (Ideal.fptosi 32 (Ideal.div y ((256 : ℝ) : EReal) * ((10 : ℝ) : EReal))))

theorem bin2_at : bin2 v0 xb (ix2 k p) = word (Rarity.img eps (chan v0 xb k) p) := by
  unfold bin2
  pointwise
  simp only [scaled_at, Rarity.ofBits_10, Rarity.ofBits_256]
  rfl

/-- The bin a value looks up. -/
def binOf (y : EReal) : Fin 11 :=
  (Rarity.clamp_mem (Ideal.fptosi 32 (Ideal.div y ((256 : ℝ) : EReal) * ((10 : ℝ) : EReal)))).choose
theorem word_eq (y : EReal) : word y = binI (binOf y) :=
  (Rarity.clamp_mem (Ideal.fptosi 32 (Ideal.div y ((256 : ℝ) : EReal) * ((10 : ℝ) : EReal)))).choose_spec
/-- The bin a pixel of a channel looks up. -/
def binAt (p : Fin 3136) : Fin 11 := binOf (Rarity.img eps (chan v0 xb k) p)

theorem isBin_at : isBin v0 xb j (ix2 k p) = if binAt v0 xb k p = j then 1 else 0 := by
  unfold isBin
  pointwise
  simp only [bin2_at, word_eq]
  refine (Rarity.select_ofBool (binI _ = binI j) _ _).trans ?_
  exact if_congr Rarity.binI_inj.eq_iff rfl rfl

theorem hist_at : hist v0 xb iv j (ix2 k 0) = Rarity.hist (fun p => bin1 v0 xb iv (ix2 k p)) j := by
  unfold hist
  rw [row_at]
  refine Finset.sum_congr rfl fun p _ => ?_
  pointwise
  rw [Rarity.ofBits_binF]

theorem cnt_at : cnt v0 xb j (ix2 k 0) = Rarity.count (binAt v0 xb k) (fun _ => 1) j := by
  unfold cnt
  rw [row_at]
  exact Finset.sum_congr rfl fun p _ => by rw [isBin_at, mul_one]

theorem cntIn_at : cntIn v0 v1 xb j (ix2 k 0) = Rarity.count (binAt v0 xb k) (fun p => v1 (ix2 0 p)) j := by
  unfold cntIn
  rw [row_at]
  refine Finset.sum_congr rfl fun p _ => ?_
  pointwise
  rw [isBin_at]

/-- The small number under the logarithm. -/
def tiny : ℝ := Rarity.exists_tiny.choose
theorem tiny_pos : 0 < tiny := Rarity.exists_tiny.choose_spec.1
theorem ofBits_tiny : Ideal.ofBits .f32 0x38D1B717#32 = (tiny : EReal) := Rarity.exists_tiny.choose_spec.2

theorem neglog_at : neglog v0 xb iv j (ix2 k 0) =
    Rarity.kHv ((3136 : ℝ) : EReal) tiny (fun p => bin1 v0 xb iv (ix2 k p)) j := by
  unfold neglog
  pointwise
  simp only [hist_at, Rarity.ofBits_3136, ofBits_tiny]
  rfl

theorem occ_at (f g : FVec Ideal S192x1 .f32) : select (occ v0 xb j) f g (ix2 k 0) =
    if 0 < Rarity.count (binAt v0 xb k) (fun _ => 1) j then f (ix2 k 0) else g (ix2 k 0) := by
  unfold occ
  pointwise
  rw [cnt_at]

theorem big_eq : (Named.named κ "big" 0x7F61B1E6#32 : Ideal .f32) = ⊤ := rfl
theorem inv_pix_eq : (Named.named κ "inv_pix" 0x39A72F05#32 : Ideal .f32) = ((1 / 3136 : ℝ) : EReal) := rfl

theorem fold11_minimumf (f : Fin 11 → FVec Ideal S192x1 .f32) (i : S192x1.Idx) :
    fold11 minimumf f i = fold11 min fun j => f j i := rfl
theorem fold11_maximumf (f : Fin 11 → FVec Ideal S192x1 .f32) (i : S192x1.Idx) :
    fold11 maximumf f i = fold11 max fun j => f j i := rfl

theorem least_at (f : Fin 11 → FVec Ideal S192x1 .f32) : least v0 xb f (ix2 k 0) =
    Rarity.least (Rarity.count (binAt v0 xb k) fun _ => 1) fun j => f j (ix2 k 0) := by
  rw [least, fold11_minimumf]
  refine congrArg (fold11 min) (funext fun j => (occ_at v0 xb k j (f j) _).trans ?_)
  rw [show broadcast S192x1 (Named.named κ "big" 0x7F61B1E6#32 : Ideal .f32) (ix2 k 0) = ⊤ from big_eq]

theorem greatest_at (f : Fin 11 → FVec Ideal S192x1 .f32) : greatest v0 xb f (ix2 k 0) =
    Rarity.greatest (Rarity.count (binAt v0 xb k) fun _ => 1) fun j => f j (ix2 k 0) := by
  rw [greatest, fold11_maximumf]
  refine congrArg (fold11 max) (funext fun j => (occ_at v0 xb k j (f j) _).trans ?_)
  have h : (Scalar.subf (Scalar.ofBits .f32 0x00000000#32) (Named.named κ "big" 0x7F61B1E6#32) : Ideal .f32) = ⊥ := by
    rw [big_eq]
    exact (congrArg (· - ⊤) Ideal.ofBits_zero_f32).trans (by simp)
  rw [show broadcast S192x1 (Scalar.subf (Scalar.ofBits .f32 0x00000000#32) (Named.named κ "big" 0x7F61B1E6#32) : Ideal .f32)
    (ix2 k 0) = ⊥ from h]

theorem meanOf_at (c f : Fin 11 → FVec Ideal S192x1 .f32) : meanOf c f (ix2 k 0) =
    (fold11 (· + ·) fun j => c j (ix2 k 0) * f j (ix2 k 0)) * ((1 / 3136 : ℝ) : EReal) := rfl

section
/-- How many pixels look the bin up … -/
abbrev cAt : Fin 11 → EReal := Rarity.count (binAt v0 xb k) fun _ => 1
/-- … how many of them lie inside the wide border … -/
abbrev cInAt : Fin 11 → EReal := Rarity.count (binAt v0 xb k) fun p => v1 (ix2 0 p)
/-- … and the bin's value. -/
abbrev hvAt : Fin 11 → EReal := Rarity.kHv ((3136 : ℝ) : EReal) tiny fun p => bin1 v0 xb iv (ix2 k p)

theorem g1_at : g1 v0 xb iv j (ix2 k 0) = Rarity.b1 eps (cAt v0 xb k) (hvAt v0 xb iv k) j := by
  unfold g1 dden dmax dmin
  pointwise
  simp only [least_at, greatest_at, neglog_at, Rarity.ofBits_eps]
  rfl
theorem w1_at : w1 v0 xb iv (ix2 k 0) = Rarity.bw1 eps ((1 / 3136 : ℝ) : EReal) (cAt v0 xb k) (hvAt v0 xb iv k) := by
  unfold w1 sqDiff dden dmax dmin
  pointwise
  simp only [least_at, greatest_at, neglog_at, meanOf_at, g1_at, cnt_at, Rarity.ofBits_eps]
  rfl
theorem g2_at : g2 v0 xb iv j (ix2 k 0) = Rarity.b2 eps ((1 / 3136 : ℝ) : EReal) (cAt v0 xb k) (hvAt v0 xb iv k) j := by
  unfold g2
  pointwise
  simp only [g1_at, w1_at]
  rfl
theorem w2_at : w2 v0 xb iv (ix2 k 0) = Rarity.bw2 eps ((1 / 3136 : ℝ) : EReal) (cAt v0 xb k) (hvAt v0 xb iv k) := by
  unfold w2 sqDiff
  pointwise
  simp only [greatest_at, meanOf_at, g2_at, cnt_at]
  rfl
theorem g3_at : g3 v0 xb iv j (ix2 k 0) = Rarity.b3 eps ((1 / 3136 : ℝ) : EReal) (cAt v0 xb k) (hvAt v0 xb iv k) j := by
  unfold g3
  pointwise
  simp only [g2_at, w2_at]
  rfl
theorem g4_at : g4 v0 xb iv j (ix2 k 0) = Rarity.b4 eps ((1 / 3136 : ℝ) : EReal) (cAt v0 xb k) (hvAt v0 xb iv k) j := by
  unfold g4 tden tmax tmin
  pointwise
  simp only [least_at, greatest_at, g3_at, Rarity.ofBits_eps]
  rfl
theorem g5_at : g5 v0 xb iv j (ix2 k 0) = Rarity.b5 eps ((1 / 3136 : ℝ) : EReal) (cAt v0 xb k) (hvAt v0 xb iv k) j := by
  unfold g5
  pointwise
  simp only [g4_at]
  rfl
theorem occIn_at (f : FVec Ideal S192x1 .f32) : select (occIn v0 v1 xb j) f (col 0x00000000#32) (ix2 k 0) =
    if 0 < cInAt v0 v1 xb k j then f (ix2 k 0) else 0 := by
  unfold occIn
  pointwise
  rw [cntIn_at]
theorem ma_at : ma v0 v1 xb iv (ix2 k 0) =
    Rarity.bmax eps ((1 / 3136 : ℝ) : EReal) (cAt v0 xb k) (cInAt v0 v1 xb k) (hvAt v0 xb iv k) := by
  rw [ma, fold11_maximumf]
  refine congrArg (fold11 max) (funext fun j => (occIn_at v0 v1 xb k j _).trans ?_)
  rw [g5_at]
theorem w3_at : w3 v0 v1 xb iv (ix2 k 0) =
    Rarity.bw3 eps ((1 / 3136 : ℝ) : EReal) (cAt v0 xb k) (cInAt v0 v1 xb k) (hvAt v0 xb iv k) := by
  unfold w3 sqDiff
  pointwise
  simp only [ma_at, meanOf_at, g5_at, cntIn_at]
  rfl
theorem g6_at : g6 v0 v1 xb iv j (ix2 k 0) =
    Rarity.perBin eps ((1 / 3136 : ℝ) : EReal) (cAt v0 xb k) (cInAt v0 v1 xb k) (hvAt v0 xb iv k) j := by
  unfold g6
  pointwise
  simp only [w3_at, g5_at]
  rfl
end

theorem lookup_at : lookup v0 v1 xb iv (ix2 k p) =
    Rarity.perBin eps ((1 / 3136 : ℝ) : EReal) (cAt v0 xb k) (cInAt v0 v1 xb k) (hvAt v0 xb iv k) (binAt v0 xb k p) := by
  have h : ∀ j, select (cmpi .eq (bin2 v0 xb) (broadcast S192x3136 (binI j)))
      (wide (shapeCast S192x1 (g6 v0 v1 xb iv j) shapeCasts_S192x1_S192x1)) (mat 0x00000000#32) (ix2 k p) =
      if binAt v0 xb k p = j then
        Rarity.perBin eps ((1 / 3136 : ℝ) : EReal) (cAt v0 xb k) (cInAt v0 v1 xb k) (hvAt v0 xb iv k) j else 0 := fun j => by
    pointwise
    simp only [bin2_at, word_eq, g6_at]
    refine (Rarity.select_ofBool (binI _ = binI j) _ _).trans ?_
    exact if_congr Rarity.binI_inj.eq_iff rfl rfl
  refine (congrArg (fold11 (· + ·)) (funext h)).trans ?_
  rw [Rarity.fold11_add, Finset.sum_ite_eq, if_pos (Finset.mem_univ _)]

theorem piece_at : piece v0 v1 xb iv (ix3 0 0 p) = (∑ k, lookup v0 v1 xb iv (ix2 k p)) * v1 (ix2 0 p) := by
  unfold piece
  pointwise

theorem binOf_zero : binOf 0 = 0 := by
  apply Rarity.binI_inj
  rw [← word_eq, ← Rarity.clamp_zero, word]
  have h : Ideal.div (0 : EReal) ((256 : ℝ) : EReal) * ((10 : ℝ) : EReal) = ((0 : ℝ) : EReal) := by
    rw [Ideal.div_coe (by norm_num), zero_mul, zero_mul, EReal.coe_zero]
  have h' : Ideal.fptosi 32 ((0 : ℝ) : EReal) = 0#32 := by
    rw [Ideal.fptosi, Ideal.toIntClamped_coe]
    simp
  rw [h, h']

theorem div_3136 (x : EReal) : Ideal.div x ((3136 : ℝ) : EReal) = x * ((1 / 3136 : ℝ) : EReal) := Ideal.div_coe (by norm_num) x

/-- What the body stores for a batch element, by the reference's arithmetic. -/
theorem piece_chain (inside : Fin 3136 → Bool) (hin : ∀ p, v1 (ix2 0 p) = if inside p then 1 else 0)
    (p₀ : Fin 3136) (hout : inside p₀ = false) (h₀ : v0 (ix2 0 p₀) = 0) (M : ℝ)
    (hiv : iv (ix2 0 0) = Ideal.div ((11 : ℝ) : EReal) M) (hM : ∀ k, Rarity.imgTop eps (chan v0 xb k) ≤ M) :
    piece v0 v1 xb iv (ix3 0 0 p) = ∑ k, Rarity.chain eps ((3136 : ℝ) : EReal) inside
      (fun p => Rarity.rHv tiny (fun p => Rarity.rBin 0 M (Rarity.img eps (chan v0 xb k) p)) (binAt v0 xb k p)) p := by
  have hX : ∀ k, chan v0 xb k p₀ = 0 := fun k => by rw [chan, h₀, mul_zero]
  haveI : Nonempty (Fin 3136) := ⟨p₀⟩
  have hk : ∀ k, (if inside p then lookup v0 v1 xb iv (ix2 k p) else 0) = Rarity.chain eps ((3136 : ℝ) : EReal) inside
      (fun p => Rarity.rHv tiny (fun p => Rarity.rBin 0 M (Rarity.img eps (chan v0 xb k) p)) (binAt v0 xb k p)) p := fun k => by
    have hbin : (fun p => bin1 v0 xb iv (ix2 k p)) = fun p => Rarity.kBin M (Rarity.img eps (chan v0 xb k) p) := funext fun p => by
      rw [bin1_at, hiv, Rarity.kBin]
    have hreal : ∀ j, ∃ r : ℝ, hvAt v0 xb iv k j = r := fun j => Rarity.kHv_real 3136 tiny (by norm_num) tiny_pos _ _
    choose hv hhv using hreal
    have hci : (fun p => v1 (ix2 0 p)) = fun p => if inside p then (1 : EReal) else 0 := funext hin
    have h1 := Rarity.perBin_eq eps Rarity.eps_pos ((3136 : ℝ) : EReal) _ div_3136 (binAt v0 xb k) inside hv ⟨p₀, hout⟩ p
    have hcard : (Fintype.card (Fin 3136) : ℝ) = 3136 := by rw [Fintype.card_fin]; norm_num
    have hle : ∀ p, Rarity.img eps (chan v0 xb k) p ≤ M := fun p =>
      (Rarity.le_vmax _ p).trans ((Rarity.vmax_img eps Rarity.eps_pos _ p₀ (hX k)).le.trans (hM k))
    have hzero : (∀ p, Rarity.img eps (chan v0 xb k) p = 0) → ∀ p, binAt v0 xb k p = 0 := fun h p => by
      rw [binAt, h p, binOf_zero]
    have h2 := Rarity.chain_hist eps Rarity.eps_pos ((3136 : ℝ) : EReal) inside 3136 tiny (by norm_num) tiny_pos hcard
        (Rarity.img eps (chan v0 xb k)) (Rarity.img_real eps Rarity.eps_pos _ p₀ (hX k)) M hle (binAt v0 xb k) hzero
    have h3 : (fun p => (hv (binAt v0 xb k p) : EReal)) = fun p =>
        Rarity.kHv ((3136 : ℝ) : EReal) tiny (fun p => Rarity.kBin M (Rarity.img eps (chan v0 xb k) p)) (binAt v0 xb k p) := funext fun p => by
      rw [← hhv, hvAt, hbin]
    rw [h3] at h1
    rw [h2, ← h1, lookup_at, cInAt, hci, show hvAt v0 xb iv k = fun j => (hv j : EReal) from funext hhv]
  rw [piece_at, hin, Finset.sum_congr rfl fun k _ => (hk k).symm]
  by_cases h : inside p
  · simp [h]
  · simp [h]

end Cert.KernelIdeal.Own

end
-- ==== Proof.Pieces.lean ====
/-
  The four pieces that the rarity kernel's body stores are `Own.piece` of the four batch elements.
-/
module

public import proofs.«01_k».proof.Proof.Gen.KernelIdeal.Frame
public import proofs.«01_k».proof.Proof.Bins

@[expose] public section

noncomputable section

namespace Cert.KernelIdeal.Own

open Idealize.ShloMosaic Cert.KernelIdeal Cert.KernelIdeal.Gen

variable {F : FTy → Type} [FloatOps F] [Named F]

section
variable (c : Dev nD) (i : grid0.Coords)
  (arg1 : Memref sig .tc .vmem S1x4x192x3136 .f32) (harg1 : arg1.IsWhole)
  (arg2 : Memref sig .tc .vmem S1x3136 .f32) (harg2 : arg2.IsWhole)
  (arg3 : Memref sig .tc .vmem S1x3136 .f32) (harg3 : arg3.IsWhole)
  (arg4 : Memref sig .tc .vmem S1x4x3136 .f32) (harg4 : arg4.IsWhole)
  (arg5 : Memref sig .tc .vmem S8x128 .f32) (harg5 : arg5.IsWhole)
  (x0 : Vec F S1x4x192x3136 .f32) (x1 x2 : Vec F S1x3136 .f32)

/-- A mask as loaded. -/
def ldM (a : Memref sig .tc .vmem S1x3136 .f32) (ha : a.IsWhole) (x : Vec F S1x3136 .f32) : Vec F S1x3136 .f32 :=
  View.readAt (Elt F) a.view (Rect.unit (s := S1x3136) ![0, 0] S1x3136.size inb_S1x3136_S1x3136_0_0).toLoadRect (ha.unread x)

/-- A batch element as loaded. -/
def ldX (b : Nat) (h : ∀ a, (![0, b, 0, 0] : Fin 4 → Nat) a + S1x1x192x3136.size a ≤ S1x4x192x3136.size a) :
    Vec F S1x1x192x3136 .f32 :=
  View.readAt (Elt F) arg1.view (Rect.unit (s := S1x4x192x3136) ![0, b, 0, 0] S1x1x192x3136.size h).toLoadRect (harg1.unread x0)

/-- `11 / maximum` from the batch elements as loaded. -/
def ldInv : FVec F S1x1 .f32 :=
  invStep (ldM arg2 harg2 x1) (ldX arg1 harg1 x0 0 inb_S1x4x192x3136_S1x1x192x3136_0_0_0_0)
    (ldX arg1 harg1 x0 1 inb_S1x4x192x3136_S1x1x192x3136_0_1_0_0)
    (ldX arg1 harg1 x0 2 inb_S1x4x192x3136_S1x1x192x3136_0_2_0_0)
    (ldX arg1 harg1 x0 3 inb_S1x4x192x3136_S1x1x192x3136_0_3_0_0)

/-- The piece stored for batch element `b`. -/
def ldPiece (b : Nat) (h : ∀ a, (![0, b, 0, 0] : Fin 4 → Nat) a + S1x1x192x3136.size a ≤ S1x4x192x3136.size a) :
    FVec F S1x1x3136 .f32 :=
  piece (ldM arg2 harg2 x1) (ldM arg3 harg3 x2) (ldX arg1 harg1 x0 b h) (ldInv arg1 harg1 arg2 harg2 x0 x1)

theorem piece0 : kernelRun0_A.sl.v921 c arg1 harg1 arg2 harg2 arg3 harg3 x0 x1 x2
    = ldPiece arg1 harg1 arg2 harg2 arg3 harg3 x0 x1 x2 0 inb_S1x4x192x3136_S1x1x192x3136_0_0_0_0 := by
  sl_kernel_rfl

theorem piece1 : kernelRun0_A.sl.v1756 c arg1 harg1 arg2 harg2 arg3 harg3 x0 x1 x2
    = ldPiece arg1 harg1 arg2 harg2 arg3 harg3 x0 x1 x2 1 inb_S1x4x192x3136_S1x1x192x3136_0_1_0_0 := by
  sl_kernel_rfl

theorem piece2 : kernelRun0_A.sl.v2591 c arg1 harg1 arg2 harg2 arg3 harg3 x0 x1 x2
    = ldPiece arg1 harg1 arg2 harg2 arg3 harg3 x0 x1 x2 2 inb_S1x4x192x3136_S1x1x192x3136_0_2_0_0 := by
  sl_kernel_rfl

/-- The four pieces, the last stored first. -/
def pieces : List (View.Piece (Elt F) S1x4x3136 .f32) :=
  [⟨Rect.unit ![0, 3, 0] S1x1x3136.size inb_S1x4x3136_S1x1x3136_0_3_0,
      ldPiece arg1 harg1 arg2 harg2 arg3 harg3 x0 x1 x2 3 inb_S1x4x192x3136_S1x1x192x3136_0_3_0_0⟩,
   ⟨Rect.unit ![0, 2, 0] S1x1x3136.size inb_S1x4x3136_S1x1x3136_0_2_0,
      ldPiece arg1 harg1 arg2 harg2 arg3 harg3 x0 x1 x2 2 inb_S1x4x192x3136_S1x1x192x3136_0_2_0_0⟩,
   ⟨Rect.unit ![0, 1, 0] S1x1x3136.size inb_S1x4x3136_S1x1x3136_0_1_0,
      ldPiece arg1 harg1 arg2 harg2 arg3 harg3 x0 x1 x2 1 inb_S1x4x192x3136_S1x1x192x3136_0_1_0_0⟩,
   ⟨Rect.unit ![0, 0, 0] S1x1x3136.size inb_S1x4x3136_S1x1x3136_0_0_0,
      ldPiece arg1 harg1 arg2 harg2 arg3 harg3 x0 x1 x2 0 inb_S1x4x192x3136_S1x1x192x3136_0_0_0_0⟩]

theorem pieces_eq : (kernelRun0_A c i arg1 harg1 arg2 harg2 arg3 harg3 arg4 harg4 arg5 harg5 x0 x1 x2).1
    = pieces arg1 harg1 arg2 harg2 arg3 harg3 x0 x1 x2 := by
  sl_kernel_rfl

end

end Cert.KernelIdeal.Own

end
-- ==== Proof.Region0.lean ====
/-
  What the rarity call leaves: at each image and batch element the piece its body stores.
-/
module

public import proofs.«01_k».proof.Proof.Pieces
public import Idealize.ShloMosaic.Lib.WholeRead
public import Idealize.ShloMosaic.Lib.Pipeline.Value

@[expose] public section

noncomputable section

namespace Cert.KernelIdeal.Own

open Idealize.ShloMosaic Idealize.ShloMosaic.TcCoe Cert.KernelIdeal Cert.KernelIdeal.Gen

variable {F : FTy → Type} [FloatOps F] [Named F]

/-- One batch element of a block. -/
def batch (x0 : Vec F S1x4x192x3136 .f32) (b : Fin 4) : Vec F S1x1x192x3136 .f32 := fun i => x0 (ix4 0 b (i 2) (i 3))

/-- A block of maps, batch element by batch element. -/
def block (x0 : Vec F S1x4x192x3136 .f32) (x1 x2 : Vec F S1x3136 .f32) : Vec F S1x4x3136 .f32 := fun y =>
  piece x1 x2 (batch x0 (y 1)) (invStep x1 (batch x0 0) (batch x0 1) (batch x0 2) (batch x0 3)) (ix3 0 0 (y 2))

section
variable (c : Dev nD) (i : grid0.Coords)
  (arg1 : Memref sig .tc .vmem S1x4x192x3136 .f32) (harg1 : arg1.IsWhole)
  (arg2 : Memref sig .tc .vmem S1x3136 .f32) (harg2 : arg2.IsWhole)
  (arg3 : Memref sig .tc .vmem S1x3136 .f32) (harg3 : arg3.IsWhole)
  (arg4 : Memref sig .tc .vmem S1x4x3136 .f32) (harg4 : arg4.IsWhole)
  (arg5 : Memref sig .tc .vmem S8x128 .f32) (harg5 : arg5.IsWhole)
  (x0 : Vec F S1x4x192x3136 .f32) (x1 x2 : Vec F S1x3136 .f32)

theorem ldM_eq (a : Memref sig .tc .vmem S1x3136 .f32) (ha : a.IsWhole) (x : Vec F S1x3136 .f32) : ldM a ha x = x := by
  unfold ldM
  funext j
  refine (ha.readAt_unread ..).trans (congrArg x ?_)
  funext a; apply Fin.ext
  match a with
  | ⟨0, _⟩ => show 0 + 1 * (j 0).val = (j 0).val; omega
  | ⟨1, _⟩ => show 0 + 1 * (j 1).val = (j 1).val; omega

theorem ldX_eq (b : Nat) (hb : b < 4) (h) : ldX arg1 harg1 x0 b h = batch x0 ⟨b, hb⟩ := by
  unfold ldX
  funext j
  have h0 : (j 0).val < 1 := (j 0).isLt
  have h1 : (j 1).val < 1 := (j 1).isLt
  refine (harg1.readAt_unread ..).trans (congrArg x0 ?_)
  funext a; apply Fin.ext
  match a with
  | ⟨0, _⟩ => show 0 + 1 * (j 0).val = 0; omega
  | ⟨1, _⟩ => show b + 1 * (j 1).val = b; omega
  | ⟨2, _⟩ => show 0 + 1 * (j 2).val = (j 2).val; omega
  | ⟨3, _⟩ => show 0 + 1 * (j 3).val = (j 3).val; omega

theorem ldPiece_eq (b : Nat) (hb : b < 4) (h) (h' : ∀ a, (![0, b, 0] : Fin 3 → Nat) a + S1x1x3136.size a ≤ S1x4x3136.size a)
    (y : S1x1x3136.Idx) : ldPiece arg1 harg1 arg2 harg2 arg3 harg3 x0 x1 x2 b h y =
      block x0 x1 x2 ((Rect.unit (s := S1x4x3136) ![0, b, 0] S1x1x3136.size h').emb y) := by
  have h0 : (y 0).val < 1 := (y 0).isLt
  have h1 : (y 1).val < 1 := (y 1).isLt
  have e1 : (Rect.unit (s := S1x4x3136) ![0, b, 0] S1x1x3136.size h').emb y 1 = (⟨b, hb⟩ : Fin 4) :=
    Fin.ext (by show b + 1 * (y 1).val = b; omega)
  have e2 : (ix3 0 0 ((Rect.unit (s := S1x4x3136) ![0, b, 0] S1x1x3136.size h').emb y 2) : S1x1x3136.Idx) = y := by
    funext a; apply Fin.ext
    match a with
    | ⟨0, _⟩ => show 0 = (y 0).val; omega
    | ⟨1, _⟩ => show 0 = (y 1).val; omega
    | ⟨2, _⟩ => show 0 + 1 * (y 2).val = (y 2).val; omega
  rw [block, e1, e2, ldPiece, ldInv, ldM_eq, ldM_eq, ldX_eq arg1 harg1 x0 b hb, ldX_eq arg1 harg1 x0 0 (by omega),
    ldX_eq arg1 harg1 x0 1 (by omega), ldX_eq arg1 harg1 x0 2 (by omega), ldX_eq arg1 harg1 x0 3 (by omega)]
  rfl

theorem out_block : out0_A_3 c i arg1 harg1 arg2 harg2 arg3 harg3 arg4 harg4 arg5 harg5 x0 x1 x2 = block x0 x1 x2 := by
  unfold out0_A_3
  rw [View.read_writes_junk_eq_canon]
  funext y
  have hc := cover0_A_3 c i arg1 harg1 arg2 harg2 arg3 harg3 arg4 harg4 arg5 harg5 x0 x1 x2 y
  rw [pieces_eq] at hc ⊢
  refine View.canon_apply_of_pieces (block x0 x1 x2) _ (fun q hq => ?_) y hc
  simp only [pieces, List.mem_cons, List.not_mem_nil, or_false] at hq
  rcases hq with rfl | rfl | rfl | rfl
  · exact fun x => ldPiece_eq arg1 harg1 arg2 harg2 arg3 harg3 x0 x1 x2 3 (by omega) _ inb_S1x4x3136_S1x1x3136_0_3_0 x
  · exact fun x => ldPiece_eq arg1 harg1 arg2 harg2 arg3 harg3 x0 x1 x2 2 (by omega) _ inb_S1x4x3136_S1x1x3136_0_2_0 x
  · exact fun x => ldPiece_eq arg1 harg1 arg2 harg2 arg3 harg3 x0 x1 x2 1 (by omega) _ inb_S1x4x3136_S1x1x3136_0_1_0 x
  · exact fun x => ldPiece_eq arg1 harg1 arg2 harg2 arg3 harg3 x0 x1 x2 0 (by omega) _ inb_S1x4x3136_S1x1x3136_0_0_0 x

end

/-! ## The windows -/

/-- The layer that image `n` is taken from. -/
def layerOf (n : Fin 10) : Fin 17 := ⟨3 * (n.val / 2) + 3 + n.val % 2, by omega⟩

/-- The image of a grid point. -/
def imgOf (t : Fin cfg0.N) : Fin 10 := ⟨t.val, by have h : cfg0.N = 10 := N_0; have := t.isLt; omega⟩

theorem idx0 : ∀ t : Fin cfg0.N, win0_0.index t (0 : Fin 4) = 3 * (t.val / 2) + 3 + t.val % 2 ∧ win0_0.index t (1 : Fin 4) = 0
    ∧ win0_0.index t (2 : Fin 4) = 0 ∧ win0_0.index t (3 : Fin 4) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

theorem emb0 (t : Fin cfg0.N) (j : S1x4x192x3136.Idx) :
    ((cfg0.win 0).blk t).view.emb j = (ix4 (layerOf (imgOf t)) (j 1) (j 2) (j 3) : S17x4x192x3136.Idx) := by
  obtain ⟨e0, e1, e2, e3⟩ := idx0 t
  have h0 : (j 0).val < 1 := (j 0).isLt
  funext a; apply Fin.ext
  match a with
  | ⟨0, _⟩ => show win0_0.index t (0 : Fin 4) * 1 + 1 * (j 0).val = 3 * (t.val / 2) + 3 + t.val % 2; omega
  | ⟨1, _⟩ => show win0_0.index t (1 : Fin 4) * 4 + 1 * (j 1).val = (j 1).val; omega
  | ⟨2, _⟩ => show win0_0.index t (2 : Fin 4) * 192 + 1 * (j 2).val = (j 2).val; omega
  | ⟨3, _⟩ => show win0_0.index t (3 : Fin 4) * 3136 + 1 * (j 3).val = (j 3).val; omega
theorem emb1 (t : Fin cfg0.N) (j : S1x3136.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 3136 + 1 * (j 1).val = (j 1).val; omega
theorem emb2 (t : Fin cfg0.N) (j : S1x3136.Idx) : ((cfg0.win 2).blk t).view.emb j = j := by
  obtain ⟨e0, e1⟩ := idx2 t
  funext a; apply Fin.ext
  match a with
  | ⟨0, _⟩ => show win0_2.index t (0 : Fin 2) * 1 + 1 * (j 0).val = (j 0).val; omega
  | ⟨1, _⟩ => show win0_2.index t (1 : Fin 2) * 3136 + 1 * (j 1).val = (j 1).val; omega
theorem emb3 (t : Fin cfg0.N) (j : S1x4x3136.Idx) :
    ((cfg0.win 3).blk t).view.emb j = (ix3 (imgOf t) (j 1) (j 2) : S10x4x3136.Idx) := by
  obtain ⟨e0, e1, e2⟩ := idx3 t
  have h0 : (j 0).val < 1 := (j 0).isLt
  funext a; apply Fin.ext
  match a with
  | ⟨0, _⟩ => show win0_3.index t (0 : Fin 3) * 1 + 1 * (j 0).val = t.val; omega
  | ⟨1, _⟩ => show win0_3.index t (1 : Fin 3) * 4 + 1 * (j 1).val = (j 1).val; omega
  | ⟨2, _⟩ => show win0_3.index t (2 : Fin 3) * 3136 + 1 * (j 2).val = (j 2).val; omega

/-- An image's block of the input. -/
def image (X : Vec F S17x4x192x3136 .f32) (n : Fin 10) : Vec F S1x4x192x3136 .f32 := fun j => X (ix4 (layerOf n) (j 1) (j 2) (j 3))

/-- The maps. -/
def maps (X : Vec F S17x4x192x3136 .f32) (x1 x2 : Vec F S1x3136 .f32) : Vec F S10x4x3136 .f32 := fun y =>
  block (image X (y 0)) x1 x2 (ix3 0 (y 1) (y 2))

section
variable (V : (c : Dev nD) → (b : Ref sig .tc) → Buf (Elt F) ((c : Thread nD τ).loc b)) (c : Dev nD) (t : Fin cfg0.N)

theorem iblk0_image : iblk0 V c 0 t = image (V c main_v0) (imgOf t) := by
  funext j; show V c main_v0 (((cfg0.win 0).blk t).view.emb j) = _; rw [emb0]; rfl
theorem iblk0_mask : iblk0 V c 1 t = V c main_cst := by
  funext j; show V c main_cst (((cfg0.win 1).blk t).view.emb j) = _; rw [emb1]
theorem iblk0_mask2 : iblk0 V c 2 t = V c main_cst_0 := by
  funext j; show V c main_cst_0 (((cfg0.win 2).blk t).view.emb j) = _; rw [emb2]

theorem flushed_maps : (dat0 V c).flushed 3 t =
    ((cfg0.win 3).blk t).view.read (Elt F) (maps (V c main_v0) (V c main_cst) (V c main_cst_0)) := by
  show (cfg0.win 3).cut (grid0.coords t) ((dat0 V c).after 3 t) = _
  rw [after0_3, outsAt0, out_block, iblk0_image, iblk0_mask, iblk0_mask2]
  funext j
  have h0 : (j 0).val < 1 := (j 0).isLt
  show block _ _ _ j = maps _ _ _ (((cfg0.win 3).blk t).view.emb j)
  rw [emb3]
  show block _ _ _ j = block _ _ _ (ix3 0 (j 1) (j 2) : S1x4x3136.Idx)
  congr 1
  funext a
  match a with
  | ⟨0, _⟩ => exact Fin.ext (by show (j 0).val = 0; omega)
  | ⟨1, _⟩ => rfl
  | ⟨2, _⟩ => rfl

/-- The array after the call. -/
theorem final_maps : (dat0 V c).arrAt 3 cfg0.N = maps (V c main_v0) (V c main_cst) (V c main_cst_0) :=
  (dat0 V c).arrAt_eq_of_cover 3 _ (fun t _ => flushed_maps V c t) fun (y : S10x4x3136.Idx) => by
    have hN : cfg0.N = 10 := N_0
    have hy : (y 0).val < 10 := (y 0).isLt
    have ht : (y 0).val < cfg0.N := by rw [hN]; exact hy
    refine ⟨⟨(y 0).val, ht⟩, flush0_3 _, ?_⟩
    have h := ((cfg0.win 3).blk ⟨(y 0).val, ht⟩).view.emb_mem_set (ix3 0 (y 1) (y 2) : S1x4x3136.Idx)
    rw [emb3] at h
    convert h using 1
    funext a
    fin_cases a <;> rfl

end

end Cert.KernelIdeal.Own

end
-- ==== Proof.RefRarity.lean ====
/-
  The reference's rarity stage, read at its indices at the extended reals.
-/
module

public import proofs.«01_k».proof.Proof.Gen.ReferenceIdeal.Read
public import proofs.«01_k».proof.Proof.Consts
public import Idealize.ShloMosaic.Lib.KernelVsHost

@[expose] public section

noncomputable section

namespace Cert.ReferenceIdeal.Own

open Idealize.ShloMosaic Cert.ReferenceIdeal Cert.ReferenceIdeal.Read Cert.ReferenceIdeal.Gen
open Rarity (vmin vmax eps binI)

variable (x0 : (⟨S17x4x192x56x56, .f32⟩ : BufTy).Contents (Elt Ideal)) (n : Fin 10) (b : Fin 4) (k : Fin 192) (p : Fin 3136)

/-- A channel with its border set to zero. -/
def chan (p : Fin 3136) : EReal := val_main_v6 (F := Ideal) x0 (ix4 n b k p)

/-! ## Reductions along the pixels -/

theorem min_pix (y : FVec Ideal S10x4x192x3136 .f32) (c : FVec Ideal S_ .f32) (hc : c (Shape.Idx.first h_S_) = Ideal.ofBits .f32 0x7F800000#32) :
    Host.reduce FloatOps.minimumf y c reducesTo_S10x4x192x3136_S10x4x192_d3 h_S_ (ix3 n b k) = vmin fun p => y (ix4 n b k p) := by
  pointwise
  rw [hc]
  exact Rarity.fold_min_top _
theorem max_pix (y : FVec Ideal S10x4x192x3136 .f32) (c : FVec Ideal S_ .f32) (hc : c (Shape.Idx.first h_S_) = Ideal.ofBits .f32 0xFF800000#32) :
    Host.reduce FloatOps.maximumf y c reducesTo_S10x4x192x3136_S10x4x192_d3 h_S_ (ix3 n b k) = vmax fun p => y (ix4 n b k p) := by
  pointwise
  rw [hc]
  exact Rarity.fold_max_bot _

theorem v7_at : val_main_v7 (F := Ideal) x0 (ix3 n b k) = vmin (chan x0 n b k) := min_pix n b k _ _ rfl
theorem v9_at : val_main_v9 (F := Ideal) x0 (ix3 n b k) = vmax (chan x0 n b k) := max_pix n b k _ _ rfl

theorem v19_at : val_main_v19 (F := Ideal) x0 (ix4 n b k p) = Rarity.img eps (chan x0 n b k) p := by
  have e1 : idx_main_v8 (idx_main_v11 (ix4 n b k p)) = ix3 n b k := by funext a; fin_cases a <;> rfl
  have e2 : idx_main_v10 (idx_main_v16 (ix4 n b k p)) = ix3 n b k := by funext a; fin_cases a <;> rfl
  rw [val_main_v19_apply, val_main_v17_apply, val_main_v12_apply, val_main_v11_apply, val_main_v16_apply, val_main_v15_apply,
    val_main_v13_apply, val_main_v10_apply, val_main_v8_apply, e1, e2, v7_at, v9_at, val_main_v14_apply,
    val_main_v18_apply, val_main_cst_2_apply, val_main_cst_3_apply]
  simp only [Ideal.ofBits_def, Rarity.ofBits_eps, Rarity.ofBits_256]
  rfl

/-! ## The bins -/

/-- The image's greatest scaled value. -/
def topAt : EReal := vmax fun b => vmax fun k => Rarity.imgTop eps (chan x0 n b k)

theorem mem_image (i : S10x4x192x3136.Idx) :
    reducesTo_S10x4x192x3136_S10_d1_2_3.drop i = ix1 n ↔ ∃ b k p, i = ix4 n b k p := by
  constructor
  · intro h
    have h0 : i 0 = n := congrFun h 0
    exact ⟨i 1, i 2, i 3, by rw [← h0]; exact eq_ix4 i⟩
  · rintro ⟨b, k, p, rfl⟩
    funext a
    fin_cases a
    rfl

section
variable (p₀ : Fin 3136) (h₀ : ∀ b k, chan x0 n b k p₀ = 0)
include h₀

theorem v20_at : val_main_v20 (F := Ideal) x0 (ix1 n) = 0 := by
  haveI : Nonempty (Fin 3136) := ⟨p₀⟩
  unfold val_main_v20
  pointwise
  rw [val_main_cst_4_apply, Ideal.ofBits_def, Rarity.ofBits_top]
  refine le_antisymm ?_ ?_
  · obtain ⟨p, hp⟩ := Rarity.exists_img_zero eps Rarity.eps_pos (chan x0 n 0 0) p₀ (h₀ 0 0)
    refine (Finset.inf_le (f := val_main_v19 (F := Ideal) x0) (Finset.mem_filter.2 ⟨Finset.mem_univ _, (mem_image n _).2 ⟨0, 0, p, rfl⟩⟩)).trans ?_
    rw [v19_at, hp]
  · refine Finset.le_inf (f := val_main_v19 (F := Ideal) x0) fun i hi => ?_
    obtain ⟨b, k, p, rfl⟩ := (mem_image n i).1 (Finset.mem_filter.1 hi).2
    obtain ⟨y, hy, h⟩ := Rarity.img_real eps Rarity.eps_pos (chan x0 n b k) p₀ (h₀ b k) p
    rw [v19_at, h]
    exact EReal.coe_nonneg.2 hy

theorem v21_at : val_main_v21 (F := Ideal) x0 (ix1 n) = topAt x0 n := by
  haveI : Nonempty (Fin 3136) := ⟨p₀⟩
  unfold val_main_v21
  pointwise
  rw [val_main_cst_5_apply, Ideal.ofBits_def, Rarity.ofBits_bot]
  refine le_antisymm ?_ ?_
  · refine Finset.sup_le (f := val_main_v19 (F := Ideal) x0) fun i hi => ?_
    obtain ⟨b, k, p, rfl⟩ := (mem_image n i).1 (Finset.mem_filter.1 hi).2
    rw [v19_at]
    refine (Rarity.le_vmax _ p).trans ((Rarity.vmax_img eps Rarity.eps_pos (chan x0 n b k) p₀ (h₀ b k)).le.trans ?_)
    exact (Rarity.le_vmax (fun k => Rarity.imgTop eps (chan x0 n b k)) k).trans
      (Rarity.le_vmax (fun b => vmax fun k => Rarity.imgTop eps (chan x0 n b k)) b)
  · unfold topAt vmax
    refine Finset.sup_le fun b _ => Finset.sup_le fun k _ => ?_
    obtain ⟨p, hp⟩ := Rarity.exists_vmax (Rarity.img eps (chan x0 n b k))
    rw [← Rarity.vmax_img eps Rarity.eps_pos (chan x0 n b k) p₀ (h₀ b k), hp, ← v19_at]
    exact Finset.le_sup (f := val_main_v19 (F := Ideal) x0) (Finset.mem_filter.2 ⟨Finset.mem_univ _, (mem_image n _).2 ⟨b, k, p, rfl⟩⟩)

theorem v22_at (q : Fin 12) : val_main_v22 (F := Ideal) x0 (ix2 q n) = Rarity.edge 0 (topAt x0 n) q := by
  unfold val_main_v22 Rarity.edge
  pointwise
  by_cases hq : q.val < 11
  · rw [dif_pos hq, if_pos hq]
    have e1 : idx_main_call0_v7 (idx_main_call0_v10 (ix2 (⟨q.val, hq⟩ : Fin 11) n)) = ix1 n := by
      funext a; fin_cases a; exact Fin.ext (by show 0 * 10 + n.val = n.val; omega)
    have e2 : idx_main_call0_v13 (idx_main_call0_v14 (ix2 (⟨q.val, hq⟩ : Fin 11) n)) = ix1 n := by
      funext a; fin_cases a; exact Fin.ext (by show 0 * 10 + n.val = n.val; omega)
    rw [val_main_call0_v17_apply, val_main_call0_v12_apply, val_main_call0_v16_apply, val_main_call0_v10_apply,
      val_main_call0_v7_apply, val_main_call0_v14_apply, val_main_call0_v13_apply, e1, e2, v20_at x0 n p₀ h₀, v21_at x0 n p₀ h₀]
    have e3 : val_main_call0_v6 (F := Ideal) (ix2 (⟨q.val, hq⟩ : Fin 11) (0 : Fin 1)) = Ideal.div ((q.val : ℝ) : EReal) ((11 : ℝ) : EReal) := by
      rw [val_main_call0_v6_apply, val_main_call0_v5_apply, val_main_call0_cst_0_apply, val_main_call0_v4_apply, Ideal.ofBits_def,
        Rarity.ofBits_11]
      have e4 : ∀ r : Fin 11, val_main_call0_v3 (F := Ideal) (ix1 r) = ((r.val : ℝ) : EReal) := fun r => by fin_cases r <;> rfl
      have e7 : idx_main_call0_v4 (ix2 (⟨q.val, hq⟩ : Fin 11) (0 : Fin 1)) = ix1 (⟨q.val, hq⟩ : Fin 11) := by
        funext a; fin_cases a; exact Fin.ext (by show q.val * 1 + 0 = q.val; omega)
      rw [e7, e4]
      rfl
    have e5 : idx_main_call0_v11 (ix2 (⟨q.val, hq⟩ : Fin 11) n) = ix2 (⟨q.val, hq⟩ : Fin 11) (0 : Fin 1) := by funext a; fin_cases a <;> rfl
    have e6 : idx_main_call0_v15 (ix2 (⟨q.val, hq⟩ : Fin 11) n) = ix2 (⟨q.val, hq⟩ : Fin 11) (0 : Fin 1) := by funext a; fin_cases a <;> rfl
    rw [val_main_call0_v11_apply, val_main_call0_v15_apply, e5, e6, val_main_call0_v9_apply, val_main_call0_v8_apply,
      val_main_call0_cst_1_apply, e3, Ideal.ofBits_def, Ideal.ofBits_one_f32]
    rfl
  · rw [dif_neg hq, if_neg hq, val_main_call0_v18_apply, ← v21_at x0 n p₀ h₀]
    congr 1
    funext a; fin_cases a; rfl

theorem v33_at : val_main_v33 (F := Ideal) x0 (ix4 n b k p) = Rarity.rBin 0 (topAt x0 n) (Rarity.img eps (chan x0 n b k) p) := by
  have e : ∀ q : Fin 12, val_main_v29 (F := Ideal) x0 (idx_main_v30 (ix4 n b k p) q) =
      if Rarity.edge 0 (topAt x0 n) q ≤ Rarity.img eps (chan x0 n b k) p then 1 else 0 := fun q => by
    have e1 : idx_main_v23 (idx_main_v25 (idx_main_v30 (ix4 n b k p) q)) = ix2 q n := by funext a; fin_cases a <;> rfl
    have e2 : idx_main_v24 (idx_main_v26 (idx_main_v30 (ix4 n b k p) q)) = ix4 n b k p := by funext a; fin_cases a <;> rfl
    rw [val_main_v29_apply, val_main_v28_apply, val_main_v27_apply, val_main_v25_apply, val_main_v23_apply, val_main_v26_apply,
      val_main_v24_apply, e1, e2, v22_at x0 n p₀ h₀, v19_at, val_main_call1_v0_apply, val_main_call1_v1_apply, val_main_cst_6_apply, val_main_cst_7_apply]
    refine (Rarity.select_ofBool (_ ≤ _) _ _).trans ?_
    rw [Ideal.ofBits_def, Ideal.ofBits_def, Ideal.ofBits_zero_f32, Ideal.ofBits_one_f32]
  rw [val_main_v33_apply, val_main_call2_v2_apply, val_main_v32_apply, val_main_v30_apply, Finset.sum_congr rfl fun q _ => e q,
    val_main_call2_v4_apply, val_main_call2_v3_apply, val_main_cst_11_apply, val_main_call2_v1_apply, val_main_call2_v0_apply,
    val_main_cst_10_apply, val_main_v31_apply, val_main_cst_9_apply, val_main_cst_8_apply]
  simp only [Ideal.ofBits_def, Ideal.ofBits_zero_f32, Ideal.ofBits_one_f32, Rarity.ofBits_10, zero_add]
  rfl

/-- The bins of a channel's histogram. -/
abbrev rbins (p : Fin 3136) : EReal := Rarity.rBin 0 (topAt x0 n) (Rarity.img eps (chan x0 n b k) p)

theorem v42_at (j : Fin 11) : val_main_v42 (F := Ideal) x0 (ix4 n b k j) = Rarity.hist (rbins x0 n b k) j := by
  have e : ∀ p, val_main_v41 (F := Ideal) x0 (idx_main_v42 (ix4 n b k j) p) =
      if rbins x0 n b k p = ((j.val : ℝ) : EReal) then 1 else 0 := fun p => by
    have e1 : idx_main_v34 (idx_main_v37 (idx_main_v42 (ix4 n b k j) p)) = ix4 n b k p := by funext a; fin_cases a <;> rfl
    rw [val_main_v41_apply, val_main_v40_apply, val_main_v39_apply, val_main_v37_apply, val_main_v34_apply, e1, v33_at x0 n b k p p₀ h₀,
      val_main_call3_v0_apply, val_main_call3_v1_apply, val_main_cst_12_apply, val_main_cst_13_apply]
    refine (Rarity.select_ofBool (_ = _) _ _).trans ?_
    rw [Ideal.ofBits_def, Ideal.ofBits_def, Ideal.ofBits_zero_f32, Ideal.ofBits_one_f32]
    have e2 : val_main_v38 (F := Ideal) (idx_main_v42 (ix4 n b k j) p) = ((j.val : ℝ) : EReal) := by
      rw [val_main_v38_apply, val_main_v36_apply]
      fin_cases j <;> rfl
    rw [e2]
  rw [val_main_v42_apply, Finset.sum_congr rfl fun q _ => e q, val_main_cst_14_apply, Ideal.ofBits_def, Ideal.ofBits_zero_f32, zero_add]
  rfl

theorem v50_at (c : ℝ) (hc : Ideal.ofBits .f32 0x38D1B717#32 = (c : EReal)) (j : Fin 11) :
    val_main_v50 (F := Ideal) x0 (ix4 n b k j) = Rarity.rHv c (rbins x0 n b k) j := by
  have e1 : idx_main_v44 (idx_main_v45 (ix4 n b k j)) = ix3 n b k := by funext a; fin_cases a <;> rfl
  have e2 : ∀ j, idx_main_v43 (ix3 n b k) j = ix4 n b k j := fun j => by funext a; fin_cases a <;> rfl
  rw [val_main_v50_apply, val_main_v49_apply, val_main_v48_apply, val_main_v46_apply, val_main_v45_apply, val_main_v44_apply, e1,
    val_main_v43_apply, v42_at x0 n b k p₀ h₀, val_main_v47_apply, val_main_cst_16_apply, val_main_cst_15_apply]
  simp only [e2, v42_at x0 n b k p₀ h₀, Ideal.ofBits_def, Ideal.ofBits_zero_f32, zero_add, hc]
  rfl

end

/-! ## The bin that is looked up -/

/-- The word of the bin a value looks up. -/
def word (y : EReal) : BitVec 32 :=
  IntOp.minsi 10#32 (IntOp.maxsi 0#32 (Ideal.fptosi 32 (Ideal.div y ((256 : ℝ) : EReal) * ((10 : ℝ) : EReal))))

theorem v56_at : val_main_v56 (F := Ideal) x0 (ix4 n b k p) = word (Rarity.img eps (chan x0 n b k) p) := by
  rw [val_main_v56_apply, val_main_call4_v2_apply, val_main_v55_apply, val_main_v54_apply, val_main_v52_apply, v19_at,
    val_main_v51_apply, val_main_v53_apply, val_main_cst_17_apply, val_main_cst_18_apply, Ideal.ofBits_def, Ideal.ofBits_def,
    Rarity.ofBits_256, Rarity.ofBits_10]
  rfl

theorem binI_not_neg (j : Fin 11) : (binI j).slt 0#32 = false := by revert j; decide

/-- A bin's number is not wrapped around. -/
theorem v5_at (j : Fin 11) (hj : word (Rarity.img eps (chan x0 n b k) p) = binI j) :
    val_main_call5_v5 (F := Ideal) x0 (ix5 n b k p 0) = binI j := by
  have e : idx_main_call5_v5 (ix5 n b k p 0) = ix4 n b k p := by
    have := n.isLt; have := b.isLt; have := k.isLt; have := p.isLt
    funext a
    match a with
    | ⟨0, _⟩ => exact Fin.ext (by show ((((n.val * 4 + b.val) * 192 + k.val) * 3136 + p.val) * 1 + 0) / 2408448 = n.val; omega)
    | ⟨1, _⟩ => exact Fin.ext (by show ((((n.val * 4 + b.val) * 192 + k.val) * 3136 + p.val) * 1 + 0) / 602112 % 4 = b.val; omega)
    | ⟨2, _⟩ => exact Fin.ext (by show ((((n.val * 4 + b.val) * 192 + k.val) * 3136 + p.val) * 1 + 0) / 3136 % 192 = k.val; omega)
    | ⟨3, _⟩ => exact Fin.ext (by show ((((n.val * 4 + b.val) * 192 + k.val) * 3136 + p.val) * 1 + 0) % 3136 = p.val; omega)
  rw [val_main_call5_v5_apply, e, val_main_call5_v4_apply, val_main_call5_v1_apply, v56_at, hj, val_main_call5_v0_apply,
    val_main_call5_c_apply]
  have h : IntOp.cmpi .slt (binI j) 0#32 = 0#1 := by
    show BitVec.ofBool ((binI j).slt 0#32) = 0#1
    rw [binI_not_neg]; rfl
  rw [h]
  rfl

theorem clampIdx (j : Fin 11) : min (binI j).toInt.toNat 10 = j.val := by revert j; decide

/-- The lookup's dimension numbers. -/
abbrev dims : GatherDims S10x4x192x11 S10x4x192x3136x1 S10x4x192x3136 :=
  gather_S10x4x192x11_S10x4x192x3136x1_S10x4x192x3136_n_3_012_012_3_4_1111

theorem gather_at {α : Type} (x : S10x4x192x11.Idx → α) (w : IVec S10x4x192x3136x1 32) (j : Fin 11)
    (hw : w (ix5 n b k p 0) = binI j) :
    Host.gather dims x w (ix4 n b k p) = x (ix4 n b k j) := by
  unfold Host.gather
  congr 1
  have mem : ∀ a : Fin 4, a.val < 3 → a ∈ dims.operandBatchingDims := by decide
  have notKept : ∀ a : Fin 4, a ∉ dims.sKept := fun a h => by
    have h' := (GatherDims.mem_sKept _ _).mp h
    by_cases ha : a.val < 3
    · exact h'.2 (mem a ha)
    · exact h'.1 (List.mem_singleton.mpr (Fin.ext (by have := a.isLt; show a.val = 3; omega)))
  funext a
  refine Fin.ext ?_
  show dims.start (ix4 n b k p) w a + dims.batchCoord (ix4 n b k p) a + dims.offCoord (ix4 n b k p) a = _
  rw [GatherDims.offCoord_eq_zero _ _ _ (notKept a), Nat.add_zero]
  by_cases ha : a.val < 3
  · rw [GatherDims.start_batching _ _ _ _ (mem a ha), Nat.zero_add]
    unfold GatherDims.batchCoord
    rw [dif_pos (mem a ha)]
    match a, ha with
    | ⟨0, _⟩, _ => rfl
    | ⟨1, _⟩, _ => rfl
    | ⟨2, _⟩, _ => rfl
  · obtain rfl : a = (3 : Fin 4) := Fin.ext (by have h : a.val < 4 := a.isLt; show a.val = 3; omega)
    rw [GatherDims.batchCoord_eq_zero _ _ _ (show (3 : Fin 4) ∉ dims.operandBatchingDims by decide), Nat.add_zero]
    unfold GatherDims.start
    rw [dif_pos (show (3 : Fin 4) ∈ dims.startIndexMap from List.mem_singleton.mpr rfl)]
    have hsi : dims.siIdx (ix4 n b k p) ⟨List.idxOf (3 : Fin 4) dims.startIndexMap,
        List.idxOf_lt_length_iff.2 (List.mem_singleton.mpr rfl)⟩ = ix5 n b k p 0 := by
      funext c; refine Fin.ext ?_
      match c with
      | ⟨0, _⟩ => rfl
      | ⟨1, _⟩ => rfl
      | ⟨2, _⟩ => rfl
      | ⟨3, _⟩ => rfl
      | ⟨4, _⟩ => rfl
    rw [hsi, hw]
    exact clampIdx j

theorem v57_at (j : Fin 11) (hj : word (Rarity.img eps (chan x0 n b k) p) = binI j) :
    val_main_v57 (F := Ideal) x0 (ix4 n b k p) = val_main_v50 (F := Ideal) x0 (ix4 n b k j) :=
  gather_at n b k p _ _ j (v5_at x0 n b k p j hj)

/-! ## The chain of weightings -/

section
variable (h : Fin 3136 → EReal) (hh : ∀ p, val_main_v57 (F := Ideal) x0 (ix4 n b k p) = h p)
include hh

theorem v58_at : val_main_v58 (F := Ideal) x0 (ix3 n b k) = vmin h := (min_pix n b k _ _ rfl).trans (congrArg vmin (funext hh))
theorem v60_at : val_main_v60 (F := Ideal) x0 (ix3 n b k) = vmax h := (max_pix n b k _ _ rfl).trans (congrArg vmax (funext hh))
theorem v68_at : val_main_v68 (F := Ideal) x0 (ix4 n b k p) = Rarity.c1 eps h p := by
  have e1 : idx_main_v59 (idx_main_v62 (ix4 n b k p)) = ix3 n b k := by funext a; fin_cases a <;> rfl
  have e2 : idx_main_v61 (idx_main_v67 (ix4 n b k p)) = ix3 n b k := by funext a; fin_cases a <;> rfl
  rw [val_main_v68_apply, val_main_v63_apply, val_main_v62_apply, val_main_v67_apply, val_main_v66_apply,
    val_main_v64_apply, val_main_v61_apply, val_main_v59_apply, e1, e2, v58_at x0 n b k h hh, v60_at x0 n b k h hh, val_main_v65_apply,
    val_main_cst_22_apply, hh, Ideal.ofBits_def, Rarity.ofBits_eps]
  rfl
theorem v76_at : val_main_v76 (F := Ideal) x0 (ix4 n b k 0) = Rarity.weight ((3136 : ℝ) : EReal) (Rarity.c1 eps h) := by
  have e1 : idx_main_v70 (ix4 n b k 0) = ix3 n b k := by funext a; fin_cases a <;> rfl
  have e2 : idx_main_v72 (ix4 n b k 0) = ix3 n b k := by funext a; fin_cases a <;> rfl
  have e3 : ∀ p, idx_main_v71 (ix3 n b k) p = ix4 n b k p := fun p => by funext a; fin_cases a <;> rfl
  have e4 : val_main_v69 (F := Ideal) x0 (ix3 n b k) = vmax (Rarity.c1 eps h) :=
    (max_pix n b k _ _ rfl).trans (congrArg vmax (funext fun p => v68_at x0 n b k p h hh))
  rw [val_main_v76_apply, val_main_v75_apply, val_main_v70_apply, val_main_v74_apply, val_main_v72_apply, e1, e4, val_main_v71_apply,
    val_main_v73_apply, val_main_cst_24_apply, val_main_cst_25_apply]
  simp only [e2, e3, v68_at x0 n b k _ h hh, Ideal.ofBits_def, Ideal.ofBits_zero_f32, Rarity.ofBits_3136, zero_add]
  rfl
theorem v79_at : val_main_v79 (F := Ideal) x0 (ix4 n b k p) = Rarity.c2 eps ((3136 : ℝ) : EReal) h p := by
  have e1 : idx_main_v77 (ix4 n b k p) = ix4 n b k 0 := by funext a; fin_cases a <;> rfl
  rw [val_main_v79_apply, val_main_v78_apply, val_main_v77_apply, e1, v76_at x0 n b k h hh, v68_at x0 n b k p h hh]
  rfl
theorem v88_at : val_main_v88 (F := Ideal) x0 (ix4 n b k 0) = Rarity.weight ((3136 : ℝ) : EReal) (Rarity.c2 eps ((3136 : ℝ) : EReal) h) := by
  have e1 : idx_main_v81 (ix4 n b k 0) = ix3 n b k := by funext a; fin_cases a <;> rfl
  have e2 : idx_main_v83 (ix4 n b k 0) = ix3 n b k := by funext a; fin_cases a <;> rfl
  have e3 : ∀ p, idx_main_v82 (ix3 n b k) p = ix4 n b k p := fun p => by funext a; fin_cases a <;> rfl
  have e4 : val_main_v80 (F := Ideal) x0 (ix3 n b k) = vmax (Rarity.c2 eps ((3136 : ℝ) : EReal) h) :=
    (max_pix n b k _ _ rfl).trans (congrArg vmax (funext fun p => v79_at x0 n b k p h hh))
  rw [val_main_v88_apply, val_main_v86_apply, val_main_v87_apply, val_main_v81_apply, val_main_v85_apply, val_main_v83_apply, e1, e4,
    val_main_v82_apply, val_main_v84_apply, val_main_cst_27_apply, val_main_cst_28_apply]
  simp only [e2, e3, v79_at x0 n b k _ h hh, Ideal.ofBits_def, Ideal.ofBits_zero_f32, Rarity.ofBits_3136, zero_add]
  rfl
theorem v90_at : val_main_v90 (F := Ideal) x0 (ix4 n b k p) = Rarity.c3 eps ((3136 : ℝ) : EReal) h p := by
  have e1 : idx_main_v89 (ix4 n b k p) = ix4 n b k 0 := by funext a; fin_cases a <;> rfl
  rw [val_main_v90_apply, val_main_v89_apply, e1, v88_at x0 n b k h hh, v79_at x0 n b k p h hh]
  rfl
theorem v101_at : val_main_v101 (F := Ideal) x0 (ix4 n b k p) = Rarity.c4 eps ((3136 : ℝ) : EReal) h p := by
  have e1 : idx_main_v92 (idx_main_v95 (ix4 n b k p)) = ix3 n b k := by funext a; fin_cases a <;> rfl
  have e2 : idx_main_v94 (idx_main_v100 (ix4 n b k p)) = ix3 n b k := by funext a; fin_cases a <;> rfl
  have e3 : val_main_v91 (F := Ideal) x0 (ix3 n b k) = vmin (Rarity.c3 eps ((3136 : ℝ) : EReal) h) :=
    (min_pix n b k _ _ rfl).trans (congrArg vmin (funext fun p => v90_at x0 n b k p h hh))
  have e4 : val_main_v93 (F := Ideal) x0 (ix3 n b k) = vmax (Rarity.c3 eps ((3136 : ℝ) : EReal) h) :=
    (max_pix n b k _ _ rfl).trans (congrArg vmax (funext fun p => v90_at x0 n b k p h hh))
  rw [val_main_v101_apply, val_main_v96_apply, val_main_v95_apply, val_main_v100_apply, val_main_v99_apply,
    val_main_v97_apply, val_main_v94_apply, val_main_v92_apply, e1, e2, e3, e4, val_main_v98_apply,
    val_main_cst_31_apply, v90_at x0 n b k p h hh, Ideal.ofBits_def, Rarity.ofBits_eps]
  rfl
end

/-- The pixels inside the wide border. -/
def inside (p : Fin 3136) : Bool := decide (2 ≤ p.val / 56 ∧ p.val / 56 < 54 ∧ 2 ≤ p.val % 56 ∧ p.val % 56 < 54)

theorem v102_at (r c : Fin 56) : val_main_v102 (F := Ideal) x0 (ix5 n b k r c) = val_main_v101 (F := Ideal) x0 (ix4 n b k ⟨r.val * 56 + c.val, by omega⟩) := by
  have e : idx_main_v102 (ix5 n b k r c) = ix4 n b k ⟨r.val * 56 + c.val, by omega⟩ := by
    have := n.isLt; have := b.isLt; have := k.isLt; have := r.isLt; have := c.isLt
    funext a
    match a with
    | ⟨0, _⟩ => exact Fin.ext (by show ((((n.val * 4 + b.val) * 192 + k.val) * 56 + r.val) * 56 + c.val) / 2408448 = n.val; omega)
    | ⟨1, _⟩ => exact Fin.ext (by show ((((n.val * 4 + b.val) * 192 + k.val) * 56 + r.val) * 56 + c.val) / 602112 % 4 = b.val; omega)
    | ⟨2, _⟩ => exact Fin.ext (by show ((((n.val * 4 + b.val) * 192 + k.val) * 56 + r.val) * 56 + c.val) / 3136 % 192 = k.val; omega)
    | ⟨3, _⟩ => exact Fin.ext (by show ((((n.val * 4 + b.val) * 192 + k.val) * 56 + r.val) * 56 + c.val) % 3136 = r.val * 56 + c.val; omega)
  rw [val_main_v102_apply, e]

theorem split_idx (p : Fin 3136) : (ix4 n b k p : S10x4x192x3136.Idx) = ix4 n b k ⟨(⟨p.val / 56, by omega⟩ : Fin 56).val * 56 + (⟨p.val % 56, by omega⟩ : Fin 56).val, by
    have := p.isLt; show p.val / 56 * 56 + p.val % 56 < 3136; omega⟩ := by
  congr 1
  exact Fin.ext (by show p.val = p.val / 56 * 56 + p.val % 56; omega)

theorem idx105 : idx_main_v105 (ix4 n b k p) = ix5 n b k ⟨p.val / 56, by omega⟩ ⟨p.val % 56, by omega⟩ := by
  have := n.isLt; have := b.isLt; have := k.isLt; have := p.isLt
  funext a
  match a with
  | ⟨0, _⟩ => exact Fin.ext (by show (((n.val * 4 + b.val) * 192 + k.val) * 3136 + p.val) / 2408448 = n.val; omega)
  | ⟨1, _⟩ => exact Fin.ext (by show (((n.val * 4 + b.val) * 192 + k.val) * 3136 + p.val) / 602112 % 4 = b.val; omega)
  | ⟨2, _⟩ => exact Fin.ext (by show (((n.val * 4 + b.val) * 192 + k.val) * 3136 + p.val) / 3136 % 192 = k.val; omega)
  | ⟨3, _⟩ => exact Fin.ext (by show (((n.val * 4 + b.val) * 192 + k.val) * 3136 + p.val) / 56 % 56 = p.val / 56; omega)
  | ⟨4, _⟩ => exact Fin.ext (by show (((n.val * 4 + b.val) * 192 + k.val) * 3136 + p.val) % 56 = p.val % 56; omega)

/-- The wide border is set to zero. -/
theorem v105_at : val_main_v105 (F := Ideal) x0 (ix4 n b k p) = if inside p then val_main_v101 (F := Ideal) x0 (ix4 n b k p) else 0 := by
  rw [val_main_v105_apply, idx105, inside]
  unfold val_main_v104
  by_cases h : 2 ≤ p.val / 56 ∧ p.val / 56 < 54 ∧ 2 ≤ p.val % 56 ∧ p.val % 56 < 54
  · rw [if_pos (decide_eq_true h)]
    rw [pad_apply_of_inside _ _ _ _ _ _ _ _ (ix5 n b k ⟨p.val / 56 - 2, by omega⟩ ⟨p.val % 56 - 2, by omega⟩ : S10x4x192x52x52.Idx)
      (fun a => by
        match a with
        | ⟨0, _⟩ => show n.val = 0 + n.val * 1; omega
        | ⟨1, _⟩ => show b.val = 0 + b.val * 1; omega
        | ⟨2, _⟩ => show k.val = 0 + k.val * 1; omega
        | ⟨3, _⟩ => show p.val / 56 = 2 + (p.val / 56 - 2) * 1; omega
        | ⟨4, _⟩ => show p.val % 56 = 2 + (p.val % 56 - 2) * 1; omega)]
    rw [val_main_v103_apply, split_idx, ← v102_at]
    congr 1
    funext a
    match a with
    | ⟨0, _⟩ => rfl
    | ⟨1, _⟩ => rfl
    | ⟨2, _⟩ => rfl
    | ⟨3, _⟩ => exact Fin.ext (by show 2 + (p.val / 56 - 2) = p.val / 56; omega)
    | ⟨4, _⟩ => exact Fin.ext (by show 2 + (p.val % 56 - 2) = p.val % 56; omega)
  · rw [if_neg (by simpa using h)]
    have hz : val_main_cst_32 (F := Ideal) (Shape.Idx.first h_S_) = 0 := by
      rw [val_main_cst_32_apply, Ideal.ofBits_def, Ideal.ofBits_zero_f32]
    by_cases h3 : 2 ≤ p.val / 56 ∧ p.val / 56 < 54
    · rw [pad_apply_of_not_inside _ _ _ _ _ _ _ _ (4 : Fin 5) (by
        show ¬(2 ≤ p.val % 56 ∧ (p.val % 56 - 2) % 1 = 0 ∧ (p.val % 56 - 2) / 1 < 52); omega), hz]
    · rw [pad_apply_of_not_inside _ _ _ _ _ _ _ _ (3 : Fin 5) (by
        show ¬(2 ≤ p.val / 56 ∧ (p.val / 56 - 2) % 1 = 0 ∧ (p.val / 56 - 2) / 1 < 52); omega), hz]

section
variable (h : Fin 3136 → EReal) (hh : ∀ p, val_main_v57 (F := Ideal) x0 (ix4 n b k p) = h p)
include hh

theorem v106_at : val_main_v106 (F := Ideal) x0 (ix4 n b k p) = Rarity.c5 eps ((3136 : ℝ) : EReal) inside h p := by
  rw [val_main_v106_apply, v105_at, v101_at x0 n b k p h hh]
  rfl
theorem v115_at : val_main_v115 (F := Ideal) x0 (ix4 n b k 0) =
    Rarity.weight ((3136 : ℝ) : EReal) (Rarity.c5 eps ((3136 : ℝ) : EReal) inside h) := by
  have e1 : idx_main_v108 (ix4 n b k 0) = ix3 n b k := by funext a; fin_cases a <;> rfl
  have e2 : idx_main_v110 (ix4 n b k 0) = ix3 n b k := by funext a; fin_cases a <;> rfl
  have e3 : ∀ p, idx_main_v109 (ix3 n b k) p = ix4 n b k p := fun p => by funext a; fin_cases a <;> rfl
  have e4 : val_main_v107 (F := Ideal) x0 (ix3 n b k) = vmax (Rarity.c5 eps ((3136 : ℝ) : EReal) inside h) :=
    (max_pix n b k _ _ rfl).trans (congrArg vmax (funext fun p => v106_at x0 n b k p h hh))
  rw [val_main_v115_apply, val_main_v113_apply, val_main_v114_apply, val_main_v108_apply, val_main_v112_apply, val_main_v110_apply, e1, e4,
    val_main_v109_apply, val_main_v111_apply, val_main_cst_34_apply, val_main_cst_35_apply]
  simp only [e2, e3, v106_at x0 n b k _ h hh, Ideal.ofBits_def, Ideal.ofBits_zero_f32, Rarity.ofBits_3136, zero_add]
  rfl
theorem v117_at : val_main_v117 (F := Ideal) x0 (ix4 n b k p) = Rarity.chain eps ((3136 : ℝ) : EReal) inside h p := by
  have e1 : idx_main_v116 (ix4 n b k p) = ix4 n b k 0 := by funext a; fin_cases a <;> rfl
  rw [val_main_v117_apply, val_main_v116_apply, e1, v115_at x0 n b k h hh, v106_at x0 n b k p h hh]
  rfl
end

/-- A rarity map's pixel: the sum over the channels. -/
theorem v119_at (h : Fin 192 → Fin 3136 → EReal) (hh : ∀ k p, val_main_v57 (F := Ideal) x0 (ix4 n b k p) = h k p) (r c : Fin 56) :
    val_main_v119 (F := Ideal) x0 (ix4 n b r c) =
      ∑ k, Rarity.chain eps ((3136 : ℝ) : EReal) inside (h k) ⟨r.val * 56 + c.val, by omega⟩ := by
  have e : ∀ k, idx_main_v118 (idx_main_v119 (ix4 n b r c) k) = ix4 n b k ⟨r.val * 56 + c.val, by omega⟩ := fun k => by
    have := n.isLt; have := b.isLt; have := k.isLt; have := r.isLt; have := c.isLt
    funext a
    match a with
    | ⟨0, _⟩ => exact Fin.ext (by show ((((n.val * 4 + b.val) * 192 + k.val) * 56 + r.val) * 56 + c.val) / 2408448 = n.val; omega)
    | ⟨1, _⟩ => exact Fin.ext (by show ((((n.val * 4 + b.val) * 192 + k.val) * 56 + r.val) * 56 + c.val) / 602112 % 4 = b.val; omega)
    | ⟨2, _⟩ => exact Fin.ext (by show ((((n.val * 4 + b.val) * 192 + k.val) * 56 + r.val) * 56 + c.val) / 3136 % 192 = k.val; omega)
    | ⟨3, _⟩ => exact Fin.ext (by show ((((n.val * 4 + b.val) * 192 + k.val) * 56 + r.val) * 56 + c.val) % 3136 = r.val * 56 + c.val; omega)
  rw [val_main_v119_apply, val_main_cst_36_apply, Ideal.ofBits_def, Ideal.ofBits_zero_f32, zero_add]
  exact Finset.sum_congr rfl fun k _ => by rw [val_main_v118_apply, e, v117_at x0 n b k _ (h k) (hh k)]

end Cert.ReferenceIdeal.Own

end
-- ==== Proof.RefInput.lean ====
/-
  The reference's input to the rarity stage: two layers of each group of three, the border set to zero.
-/
module

public import proofs.«01_k».proof.Proof.RefRarity

@[expose] public section

noncomputable section

namespace Cert.ReferenceIdeal.Own

open Idealize.ShloMosaic Cert.ReferenceIdeal Cert.ReferenceIdeal.Read Cert.ReferenceIdeal.Gen

variable (x0 : (⟨S17x4x192x56x56, .f32⟩ : BufTy).Contents (Elt Ideal)) (n : Fin 10) (b : Fin 4) (k : Fin 192) (p : Fin 3136)

/-- The layer that image `n` is taken from. -/
def layer : Fin 17 := ⟨3 * (n.val / 2) + 3 + n.val % 2, by omega⟩

/-- The pixels off the narrow border. -/
def kept (p : Fin 3136) : Bool := decide (1 ≤ p.val / 56 ∧ p.val / 56 < 55 ∧ 1 ≤ p.val % 56 ∧ p.val % 56 < 55)

theorem v3_at (r c : Fin 56) : val_main_v3 (F := Ideal) x0 (ix5 n b k r c) = x0 (ix5 (layer n) b k r c) := by
  have := n.isLt; have := b.isLt; have := k.isLt; have := r.isLt; have := c.isLt
  have e3 : idx_main_v3 (ix5 n b k r c) = ix5 ⟨n.val / 2, by omega⟩ ⟨n.val % 2, by omega⟩ b k ⟨r.val * 56 + c.val, by omega⟩ := by
    funext a
    match a with
    | ⟨0, _⟩ => exact Fin.ext (by show ((((n.val * 4 + b.val) * 192 + k.val) * 56 + r.val) * 56 + c.val) / 4816896 = n.val / 2; omega)
    | ⟨1, _⟩ => exact Fin.ext (by show ((((n.val * 4 + b.val) * 192 + k.val) * 56 + r.val) * 56 + c.val) / 2408448 % 2 = n.val % 2; omega)
    | ⟨2, _⟩ => exact Fin.ext (by show ((((n.val * 4 + b.val) * 192 + k.val) * 56 + r.val) * 56 + c.val) / 602112 % 4 = b.val; omega)
    | ⟨3, _⟩ => exact Fin.ext (by show ((((n.val * 4 + b.val) * 192 + k.val) * 56 + r.val) * 56 + c.val) / 3136 % 192 = k.val; omega)
    | ⟨4, _⟩ => exact Fin.ext (by show ((((n.val * 4 + b.val) * 192 + k.val) * 56 + r.val) * 56 + c.val) % 3136 = r.val * 56 + c.val; omega)
  have e1 : ∀ (g : Fin 5) (l : Fin 3) (q : Fin 3136), idx_main_v0 (idx_main_v1 (ix5 g l b k q)) =
      ix5 ⟨2 + (g.val * 3 + l.val), by omega⟩ b k ⟨q.val / 56, by omega⟩ ⟨q.val % 56, by omega⟩ := fun g l q => by
    have := g.isLt; have := l.isLt; have := q.isLt
    funext a
    match a with
    | ⟨0, _⟩ => exact Fin.ext (by show 2 + ((((g.val * 3 + l.val) * 4 + b.val) * 192 + k.val) * 3136 + q.val) / 2408448 = 2 + (g.val * 3 + l.val); omega)
    | ⟨1, _⟩ => exact Fin.ext (by show ((((g.val * 3 + l.val) * 4 + b.val) * 192 + k.val) * 3136 + q.val) / 602112 % 4 = b.val; omega)
    | ⟨2, _⟩ => exact Fin.ext (by show ((((g.val * 3 + l.val) * 4 + b.val) * 192 + k.val) * 3136 + q.val) / 3136 % 192 = k.val; omega)
    | ⟨3, _⟩ => exact Fin.ext (by show ((((g.val * 3 + l.val) * 4 + b.val) * 192 + k.val) * 3136 + q.val) / 56 % 56 = q.val / 56; omega)
    | ⟨4, _⟩ => exact Fin.ext (by show ((((g.val * 3 + l.val) * 4 + b.val) * 192 + k.val) * 3136 + q.val) % 56 = q.val % 56; omega)
  have e2 : ∀ (g : Fin 5) (l : Fin 2) (q : Fin 3136), idx_main_v2 (ix5 g l b k q) = ix5 g ⟨1 + l.val, by omega⟩ b k q := fun g l q => by
    funext a; fin_cases a <;> rfl
  rw [val_main_v3_apply, e3, val_main_v2_apply, e2, val_main_v1_apply, val_main_v0_apply, e1]
  congr 1
  funext a
  match a with
  | ⟨0, _⟩ => exact Fin.ext (by show 2 + (n.val / 2 * 3 + (1 + n.val % 2)) = 3 * (n.val / 2) + 3 + n.val % 2; omega)
  | ⟨1, _⟩ => rfl
  | ⟨2, _⟩ => rfl
  | ⟨3, _⟩ => exact Fin.ext (by show (r.val * 56 + c.val) / 56 = r.val; omega)
  | ⟨4, _⟩ => exact Fin.ext (by show (r.val * 56 + c.val) % 56 = c.val; omega)

/-- A channel, from the argument. -/
theorem chan_eq : chan x0 n b k p =
    if kept p then x0 (ix5 (layer n) b k ⟨p.val / 56, by omega⟩ ⟨p.val % 56, by omega⟩) else 0 := by
  have := n.isLt; have := b.isLt; have := k.isLt; have := p.isLt
  have e6 : idx_main_v6 (ix4 n b k p) = ix5 n b k ⟨p.val / 56, by omega⟩ ⟨p.val % 56, by omega⟩ := by
    funext a
    match a with
    | ⟨0, _⟩ => exact Fin.ext (by show (((n.val * 4 + b.val) * 192 + k.val) * 3136 + p.val) / 2408448 = n.val; omega)
    | ⟨1, _⟩ => exact Fin.ext (by show (((n.val * 4 + b.val) * 192 + k.val) * 3136 + p.val) / 602112 % 4 = b.val; omega)
    | ⟨2, _⟩ => exact Fin.ext (by show (((n.val * 4 + b.val) * 192 + k.val) * 3136 + p.val) / 3136 % 192 = k.val; omega)
    | ⟨3, _⟩ => exact Fin.ext (by show (((n.val * 4 + b.val) * 192 + k.val) * 3136 + p.val) / 56 % 56 = p.val / 56; omega)
    | ⟨4, _⟩ => exact Fin.ext (by show (((n.val * 4 + b.val) * 192 + k.val) * 3136 + p.val) % 56 = p.val % 56; omega)
  rw [chan, val_main_v6_apply, e6, kept]
  unfold val_main_v5
  by_cases h : 1 ≤ p.val / 56 ∧ p.val / 56 < 55 ∧ 1 ≤ p.val % 56 ∧ p.val % 56 < 55
  · rw [if_pos (decide_eq_true h)]
    rw [pad_apply_of_inside _ _ _ _ _ _ _ _ (ix5 n b k ⟨p.val / 56 - 1, by omega⟩ ⟨p.val % 56 - 1, by omega⟩ : S10x4x192x54x54.Idx)
      (fun a => by
        match a with
        | ⟨0, _⟩ => show n.val = 0 + n.val * 1; omega
        | ⟨1, _⟩ => show b.val = 0 + b.val * 1; omega
        | ⟨2, _⟩ => show k.val = 0 + k.val * 1; omega
        | ⟨3, _⟩ => show p.val / 56 = 1 + (p.val / 56 - 1) * 1; omega
        | ⟨4, _⟩ => show p.val % 56 = 1 + (p.val % 56 - 1) * 1; omega)]
    rw [val_main_v4_apply, ← v3_at x0 n b k ⟨p.val / 56, by omega⟩ ⟨p.val % 56, by omega⟩]
    congr 1
    funext a
    match a with
    | ⟨0, _⟩ => rfl
    | ⟨1, _⟩ => rfl
    | ⟨2, _⟩ => rfl
    | ⟨3, _⟩ => exact Fin.ext (by show 1 + (p.val / 56 - 1) = p.val / 56; omega)
    | ⟨4, _⟩ => exact Fin.ext (by show 1 + (p.val % 56 - 1) = p.val % 56; omega)
  · rw [if_neg (by simpa using h)]
    have hz : val_main_cst (F := Ideal) (Shape.Idx.first h_S_) = 0 := by
      rw [val_main_cst_apply, Ideal.ofBits_def, Ideal.ofBits_zero_f32]
    by_cases h3 : 1 ≤ p.val / 56 ∧ p.val / 56 < 55
    · rw [pad_apply_of_not_inside _ _ _ _ _ _ _ _ (4 : Fin 5) (by
        show ¬(1 ≤ p.val % 56 ∧ (p.val % 56 - 1) % 1 = 0 ∧ (p.val % 56 - 1) / 1 < 54); omega), hz]
    · rw [pad_apply_of_not_inside _ _ _ _ _ _ _ _ (3 : Fin 5) (by
        show ¬(1 ≤ p.val / 56 ∧ (p.val / 56 - 1) % 1 = 0 ∧ (p.val / 56 - 1) / 1 < 54); omega), hz]

end Cert.ReferenceIdeal.Own

end
-- ==== Proof.Join.lean ====
/-
  The maps that the rarity call leaves are the reference's.
-/
module

public import proofs.«01_k».proof.Proof.PieceAt
public import proofs.«01_k».proof.Proof.Region0
public import proofs.«01_k».proof.Proof.RefInput

@[expose] public section

set_option backward.proofsInPublic true

noncomputable section

namespace Cert.KernelIdeal.Own

open Idealize.ShloMosaic Cert.KernelIdeal Cert.KernelIdeal.Gen
open Rarity (vmin vmax eps binI)

theorem vmax_attained {P : Type} [Fintype P] [Nonempty P] (f : P → EReal) : ∃ p, vmax f = f p := by
  obtain ⟨p, -, h⟩ := Finset.exists_mem_eq_sup Finset.univ Finset.univ_nonempty f
  exact ⟨p, h⟩

theorem max_four (f : Fin 4 → EReal) : max (max (max (f 0) (f 1)) (f 2)) (f 3) = vmax f := by
  apply le_antisymm
  · exact max_le (max_le (max_le (Rarity.le_vmax f 0) (Rarity.le_vmax f 1)) (Rarity.le_vmax f 2)) (Rarity.le_vmax f 3)
  · refine Finset.sup_le fun i _ => ?_
    fin_cases i
    · exact le_max_of_le_left (le_max_of_le_left (le_max_left _ _))
    · exact le_max_of_le_left (le_max_of_le_left (le_max_right _ _))
    · exact le_max_of_le_left (le_max_right _ _)
    · exact le_max_right _ _

theorem inv_of (s t u w : FVec Ideal S1x1 .f32) (j : S1x1.Idx) :
    divf (broadcast S1x1 (Scalar.ofBits .f32 0x41300000#32)) (maximumf (maximumf (maximumf s t) u) w) j =
      Ideal.div (Ideal.ofBits .f32 0x41300000#32) (max (max (max (s j) (t j)) (u j)) (w j)) := rfl

theorem invStep_at (v0 : Vec Ideal S1x3136 .f32) (a b c d : Vec Ideal S1x1x192x3136 .f32) :
    invStep v0 a b c d (ix2 0 0) = Ideal.div ((11 : ℝ) : EReal)
      (max (max (max (top v0 a (ix2 0 0)) (top v0 b (ix2 0 0))) (top v0 c (ix2 0 0))) (top v0 d (ix2 0 0))) := by
  unfold invStep
  rw [inv_of, Rarity.ofBits_11]

section
variable (x0 : (⟨ReferenceIdeal.S17x4x192x56x56, .f32⟩ : BufTy).Contents (Elt Ideal))
  (X : Vec Ideal S17x4x192x3136 .f32) (v0 v1 : Vec Ideal S1x3136 .f32)
  (hX : ∀ (l : Fin 17) (b : Fin 4) (k : Fin 192) (p : Fin 3136),
    X (ix4 l b k p) = x0 (ix5 l b k ⟨p.val / 56, by omega⟩ ⟨p.val % 56, by omega⟩))
  (hv0 : ∀ p, v0 (ix2 0 p) = if ReferenceIdeal.Own.kept p then 1 else 0)
  (hv1 : ∀ p, v1 (ix2 0 p) = if ReferenceIdeal.Own.inside p then 1 else 0)
  (n : Fin 10) (b : Fin 4) (k : Fin 192) (p : Fin 3136)

include hX hv0 in
theorem chan_join : chan v0 (batch (image X n) b) k = ReferenceIdeal.Own.chan x0 n b k := by
  funext p
  rw [ReferenceIdeal.Own.chan_eq, chan, hv0]
  show X (ix4 (layerOf n) b k p) * _ = _
  rw [hX]
  by_cases h : ReferenceIdeal.Own.kept p
  · rw [if_pos h, if_pos h, mul_one]; rfl
  · rw [if_neg h, if_neg h, mul_zero]

theorem corner : ReferenceIdeal.Own.chan x0 n b k 0 = 0 := by
  rw [ReferenceIdeal.Own.chan_eq, if_neg (by decide)]

theorem imgTop_real : ∃ r : ℝ, Rarity.imgTop eps (ReferenceIdeal.Own.chan x0 n b k) = r := by
  haveI : Nonempty (Fin 3136) := ⟨0⟩
  obtain ⟨p, hp⟩ := vmax_attained (Rarity.img eps (ReferenceIdeal.Own.chan x0 n b k))
  obtain ⟨r, -, hr⟩ := Rarity.img_real eps Rarity.eps_pos _ 0 (corner x0 n b k) p
  exact ⟨r, by rw [← Rarity.vmax_img eps Rarity.eps_pos _ 0 (corner x0 n b k), hp, hr]⟩

theorem topAt_real : ∃ r : ℝ, ReferenceIdeal.Own.topAt x0 n = r := by
  obtain ⟨b, hb⟩ := vmax_attained fun b => vmax fun k => Rarity.imgTop eps (ReferenceIdeal.Own.chan x0 n b k)
  obtain ⟨k, hk⟩ := vmax_attained fun k => Rarity.imgTop eps (ReferenceIdeal.Own.chan x0 n b k)
  obtain ⟨r, hr⟩ := imgTop_real x0 n b k
  exact ⟨r, by rw [ReferenceIdeal.Own.topAt, hb, hk, hr]⟩

/-- What the reference looks up at a pixel. -/
def found (p : Fin 3136) : EReal :=
  Rarity.rHv tiny (fun p => Rarity.rBin 0 (ReferenceIdeal.Own.topAt x0 n) (Rarity.img eps (ReferenceIdeal.Own.chan x0 n b k) p))
    (binOf (Rarity.img eps (ReferenceIdeal.Own.chan x0 n b k) p))

theorem found_eq : ReferenceIdeal.Read.val_main_v57 (F := Ideal) x0 (ix4 n b k p) = found x0 n b k p := by
  rw [ReferenceIdeal.Own.v57_at x0 n b k p (binOf (Rarity.img eps (ReferenceIdeal.Own.chan x0 n b k) p)) (word_eq _),
    ReferenceIdeal.Own.v50_at x0 n b k 0 (fun b k => corner x0 n b k) tiny ofBits_tiny]
  rfl

include hX hv0 hv1

theorem maps_chain : maps X v0 v1 (ix3 n b p) =
    ∑ k, Rarity.chain eps ((3136 : ℝ) : EReal) ReferenceIdeal.Own.inside (found x0 n b k) p := by
  obtain ⟨M, hM⟩ := topAt_real x0 n
  have hchan := fun b k => chan_join x0 X v0 hX hv0 n b k
  have htop : ∀ b, top v0 (batch (image X n) b) (ix2 0 0) = vmax fun k => Rarity.imgTop eps (ReferenceIdeal.Own.chan x0 n b k) := fun b => by
    rw [top_at]
    simp only [hchan]
  show piece v0 v1 (batch (image X n) b) (invStep v0 (batch (image X n) 0) (batch (image X n) 1) (batch (image X n) 2)
    (batch (image X n) 3)) (ix3 0 0 p) = _
  rw [piece_chain v0 v1 (batch (image X n) b) _ p ReferenceIdeal.Own.inside hv1 0 (by decide)
    (by rw [hv0, if_neg (by decide)]) M
    (by
      rw [invStep_at, htop, htop, htop, htop,
        max_four fun b => vmax fun k => Rarity.imgTop eps (ReferenceIdeal.Own.chan x0 n b k), ← hM]
      rfl)
    (fun k => by
      rw [hchan, ← hM]
      exact (Rarity.le_vmax (fun k => Rarity.imgTop eps (ReferenceIdeal.Own.chan x0 n b k)) k).trans
        (Rarity.le_vmax (fun b => vmax fun k => Rarity.imgTop eps (ReferenceIdeal.Own.chan x0 n b k)) b))]
  refine Finset.sum_congr rfl fun k _ => ?_
  simp only [binAt, hchan, ← hM]
  rfl

/-- A map of the call is the reference's. -/
theorem maps_join (r c : Fin 56) : maps X v0 v1 (ix3 n b ⟨r.val * 56 + c.val, by omega⟩) =
    ReferenceIdeal.Read.val_main_v119 (F := Ideal) x0 (ix4 n b r c) := by
  rw [maps_chain x0 X v0 v1 hX hv0 hv1, ReferenceIdeal.Own.v119_at x0 n b (found x0 n b) (found_eq x0 n b) r c]

end

end Cert.KernelIdeal.Own

end
-- ==== Proof.Fuse.lean ====
/-
  The fusing kernel's arithmetic in stages: one text for the forty maps, one for the five groups, one for the last map.
-/
module

public import proofs.«01_k».proof.Proof.Gen.KernelIdeal.Frame

@[expose] public section

noncomputable section

namespace Cert.KernelIdeal.Own

open Idealize.ShloMosaic Cert.KernelIdeal Cert.KernelIdeal.Gen

variable {F : FTy → Type} [FloatOps F] [Named F]

/-- A number taken out of a vector of one element. -/
abbrev pick (x : FVec F S1 .f32) : FVec F S1x1 .f32 :=
  broadcast S1x1 (extractAt ![0, 0, 0] (shapeCast S1x1x1 x shapeCasts_S1_S1x1x1) inpos_S1x1x1_p0_0_0)
/-- The map's least value … -/
def mapMin (u : FVec F S240x240 .f32) : FVec F S1x1 .f32 :=
  pick (multiReduction .minimumf [1, 2] S1 (shapeCast S1x240x240 u shapeCasts_S240x240_S1x240x240) 0x7F800000#32
    reduces_S1x240x240_S1 (.inl rfl) rfl)
/-- … its greatest … -/
def mapMax (u : FVec F S240x240 .f32) : FVec F S1x1 .f32 :=
  pick (multiReduction .maximumf [1, 2] S1 (shapeCast S1x240x240 u shapeCasts_S240x240_S1x240x240) 0xFF800000#32
    reduces_S1x240x240_S1 (.inl rfl) rfl)
/-- … and its sum. -/
def mapSum (u : FVec F S240x240 .f32) : FVec F S1x1 .f32 :=
  pick (multiReduction .add [1, 2] S1 (shapeCast S1x240x240 u shapeCasts_S240x240_S1x240x240) 0x00000000#32
    reduces_S1x240x240_S1 (.inl rfl) rfl)
/-- A number copied to every pixel. -/
abbrev flat (x : FVec F S1x1 .f32) : FVec F S240x240 .f32 := broadcastTo S240x240 x broadcasts_S1x1_S240x240
/-- The map scaled by its least and greatest values. -/
def scale (u : FVec F S240x240 .f32) : FVec F S240x240 .f32 :=
  divf (subf u (flat (mapMin u)))
    (flat (addf (subf (mapMax u) (mapMin u)) (broadcast S1x1 (Scalar.ofBits .f32 0x322BCC77#32))))
/-- The map enlarged. -/
def enlarge (r : Vec F S240x56 .f32) (rt : Vec F S56x240 .f32) (m : Vec F S1x1x56x56 .f32) : FVec F S240x240 .f32 :=
  matmul dot_S240x56_S56x240_S240x240_1_0_0_1_n_n none
    (matmul dot_S240x56_S56x56_S240x56_1_0_0_1_n_n none (shapeCast S240x56 r shapeCasts_S240x56_S240x56)
      (shapeCast S56x56 m shapeCasts_S1x1x56x56_S56x56) (constant S240x56 .f32 0x00000000#32))
    (shapeCast S56x240 rt shapeCasts_S56x240_S56x240) (constant S240x240 .f32 0x00000000#32)
/-- The square of greatest value minus mean, times the map. -/
def weigh (t : FVec F S240x240 .f32) : FVec F S240x240 .f32 :=
  mulf (flat (mulf
      (subf (mapMax t) (mulf (mapSum t) (broadcast S1x1 (Named.named κ "inv_out" 0x3791A2B4#32))))
      (subf (mapMax t) (mulf (mapSum t) (broadcast S1x1 (Named.named κ "inv_out" 0x3791A2B4#32)))))) t
/-- The map that is added to its group. -/
def mapOf (r : Vec F S240x56 .f32) (rt : Vec F S56x240 .f32) (m : Vec F S1x1x56x56 .f32) : FVec F S240x240 .f32 :=
  weigh (scale (scale (enlarge r rt m)))
/-- The group's map. -/
def groupOf (r : Vec F S240x56 .f32) (rt : Vec F S56x240 .f32) (m : Fin 8 → Vec F S1x1x56x56 .f32) : FVec F S240x240 .f32 :=
  mulf (scale (addf (addf (addf (addf (addf (addf (addf (mapOf r rt (m 0)) (mapOf r rt (m 1))) (mapOf r rt (m 2)))
    (mapOf r rt (m 3))) (mapOf r rt (m 4))) (mapOf r rt (m 5))) (mapOf r rt (m 6))) (mapOf r rt (m 7))))
    (broadcast S240x240 (Scalar.ofBits .f32 0x437F0000#32))
/-- The last map. -/
def salOf (g : Fin 5 → FVec F S240x240 .f32) : FVec F S240x240 .f32 :=
  scale (exp (scale (addf (addf (addf (addf (g 0) (g 1)) (g 2)) (g 3)) (g 4))))

/-- The eight maps of each group, as loaded. -/
def mapsOf (x0 : Vec F S10x4x56x56 .f32) : Fin 5 → Fin 8 → Vec F S1x1x56x56 .f32 :=
  ![![View.ld x0 r1_2, View.ld x0 r1_3, View.ld x0 r1_4, View.ld x0 r1_5, View.ld x0 r1_6, View.ld x0 r1_7, View.ld x0 r1_8, View.ld x0 r1_9],
    ![View.ld x0 r1_11, View.ld x0 r1_12, View.ld x0 r1_13, View.ld x0 r1_14, View.ld x0 r1_15, View.ld x0 r1_16, View.ld x0 r1_17, View.ld x0 r1_18],
    ![View.ld x0 r1_20, View.ld x0 r1_21, View.ld x0 r1_22, View.ld x0 r1_23, View.ld x0 r1_24, View.ld x0 r1_25, View.ld x0 r1_26, View.ld x0 r1_27],
    ![View.ld x0 r1_29, View.ld x0 r1_30, View.ld x0 r1_31, View.ld x0 r1_32, View.ld x0 r1_33, View.ld x0 r1_34, View.ld x0 r1_35, View.ld x0 r1_36],
    ![View.ld x0 r1_38, View.ld x0 r1_39, View.ld x0 r1_40, View.ld x0 r1_41, View.ld x0 r1_42, View.ld x0 r1_43, View.ld x0 r1_44, View.ld x0 r1_45]]

section
variable (x0 : Vec F S10x4x56x56 .f32) (x1 : Vec F S240x56 .f32) (x2 : Vec F S56x240 .f32)

/-- The groups' maps from the maps and the two weight matrices. -/
def groups (g : Fin 5) : FVec F S240x240 .f32 := groupOf (View.ld x1 r1_0) (View.ld x2 r1_1) (mapsOf x0 g)

theorem out_groups : out1_3 x0 x1 x2 = View.canon
    [⟨r1_46, shapeCast S1x240x240 (groups x0 x1 x2 4) shapeCasts_S240x240_S1x240x240⟩,
     ⟨r1_37, shapeCast S1x240x240 (groups x0 x1 x2 3) shapeCasts_S240x240_S1x240x240⟩,
     ⟨r1_28, shapeCast S1x240x240 (groups x0 x1 x2 2) shapeCasts_S240x240_S1x240x240⟩,
     ⟨r1_19, shapeCast S1x240x240 (groups x0 x1 x2 1) shapeCasts_S240x240_S1x240x240⟩,
     ⟨r1_10, shapeCast S1x240x240 (groups x0 x1 x2 0) shapeCasts_S240x240_S1x240x240⟩] := by
  sl_kernel_rfl

theorem out_sal : out1_4 x0 x1 x2 = View.canon [⟨r1_47, salOf (groups x0 x1 x2)⟩] := by
  sl_kernel_rfl

end

end Cert.KernelIdeal.Own

end
-- ==== Proof.FuseMath.lean ====
/-
  The fusing stage over any finite set of pixels, and that renaming the pixels does not change it.
-/
module

public import proofs.«01_k».proof.Proof.Consts

@[expose] public section

noncomputable section

namespace Rarity

open Idealize.ShloMosaic

variable {P Q : Type} [Fintype P] [Fintype Q]

/-- A map scaled twice and weighted. -/
def fuseMap (e n : EReal) (u : P → EReal) (p : P) : EReal := weight n (unit e (unit e u)) * unit e (unit e u) p
/-- A group: its maps' sum, scaled. -/
def fuseGroup {K : Type} [Fintype K] (e n c : EReal) (u : K → P → EReal) (p : P) : EReal :=
  unit e (fun p => ∑ k, fuseMap e n (u k) p) p * c
/-- The last map. -/
def fuseLast {G : Type} [Fintype G] (e : EReal) (g : G → P → EReal) (p : P) : EReal :=
  unit e (fun p => Ideal.exp (unit e (fun p => ∑ k, g k p) p)) p
/-- A map enlarged: its rows' weights, then its columns'. -/
def enlarged {A R : Type} [Fintype A] (w w' : A → R → EReal) (m : A → A → EReal) (r c : R) : EReal :=
  ∑ j, (∑ i, w i r * m i j) * w' j c

theorem unit_equiv (σ : P ≃ Q) (e : EReal) (f : Q → EReal) : unit e (fun p => f (σ p)) = fun p => unit e f (σ p) :=
  funext fun p => by rw [unit, unit, vmin_equiv, vmax_equiv]
theorem weight_equiv (σ : P ≃ Q) (n : EReal) (f : Q → EReal) : weight n (fun p => f (σ p)) = weight n f := by
  rw [weight, weight, vmax_equiv, σ.sum_comp]
theorem fuseMap_equiv (σ : P ≃ Q) (e n : EReal) (u : Q → EReal) : fuseMap e n (fun p => u (σ p)) = fun p => fuseMap e n u (σ p) :=
  funext fun p => by rw [fuseMap, fuseMap, unit_equiv, unit_equiv, weight_equiv]
theorem fuseGroup_equiv {K : Type} [Fintype K] (σ : P ≃ Q) (e n c : EReal) (u : K → Q → EReal) :
    fuseGroup e n c (fun k p => u k (σ p)) = fun p => fuseGroup e n c u (σ p) :=
  funext fun p => by
    have h : (fun p => ∑ k, fuseMap e n (fun p => u k (σ p)) p) = fun p => ∑ k, fuseMap e n (u k) (σ p) :=
      funext fun p => Finset.sum_congr rfl fun k _ => congrFun (fuseMap_equiv σ e n (u k)) p
    rw [fuseGroup, fuseGroup, h, unit_equiv σ e fun q => ∑ k, fuseMap e n (u k) q]
theorem fuseLast_equiv {G : Type} [Fintype G] (σ : P ≃ Q) (e : EReal) (g : G → Q → EReal) :
    fuseLast e (fun k p => g k (σ p)) = fun p => fuseLast e g (σ p) :=
  funext fun p => by
    rw [fuseLast, fuseLast, unit_equiv σ e fun q => ∑ k, g k q,
      unit_equiv σ e fun q => Ideal.exp (unit e (fun q => ∑ k, g k q) q)]

end Rarity

end
-- ==== Proof.FuseAt.lean ====
/-
  The fusing kernel's stages at the extended reals.
-/
module

public import proofs.«01_k».proof.Proof.Fuse
public import proofs.«01_k».proof.Proof.FuseMath

@[expose] public section

noncomputable section

namespace Cert.KernelIdeal.Own

open Idealize.ShloMosaic Cert.KernelIdeal Cert.KernelIdeal.Gen
open Rarity (vmin vmax eps)

/-- A map's pixels with and without the leading axis. -/
def lead : S1x240x240.Idx ≃ S240x240.Idx where
  toFun i := ix2 (i 1) (i 2)
  invFun i := ix3 0 (i 0) (i 1)
  left_inv i := funext fun a => by
    match a with
    | 0 => exact Fin.ext (by have := (i 0).isLt; change (i 0).val < 1 at this; change 0 = (i 0).val; omega)
    | 1 => rfl
    | 2 => rfl
  right_inv i := funext fun a => by
    match a with
    | 0 => rfl
    | 1 => rfl

section
variable (u : FVec Ideal S240x240 .f32)

theorem lead_at : shapeCast S1x240x240 u shapeCasts_S240x240_S1x240x240 = fun i => u (lead i) := funext fun i => by
  obtain ⟨j, rfl⟩ := lead.symm.surjective i
  rw [Equiv.apply_symm_apply, show lead.symm j = ix3 0 (j 0) (j 1) from rfl]
  pointwise

theorem one_S1 (b : Fin S1.rank) : S1.size b = 1 := match b with | ⟨0, _⟩ => rfl

theorem mapMin_at : mapMin u (ix2 0 0) = vmin u := by
  have h : multiReduction .minimumf [1, 2] S1 (shapeCast S1x240x240 u shapeCasts_S240x240_S1x240x240) 0x7F800000#32
      reduces_S1x240x240_S1 (.inl rfl) rfl = fun _ => vmin u := funext fun j => by
    refine (Rarity.min_total _ reduces_S1x240x240_S1 (.inl rfl) rfl one_S1 j).trans ?_
    rw [lead_at, Rarity.vmin_equiv]
  rw [mapMin, h]
  rfl
theorem mapMax_at : mapMax u (ix2 0 0) = vmax u := by
  have h : multiReduction .maximumf [1, 2] S1 (shapeCast S1x240x240 u shapeCasts_S240x240_S1x240x240) 0xFF800000#32
      reduces_S1x240x240_S1 (.inl rfl) rfl = fun _ => vmax u := funext fun j => by
    refine (Rarity.max_total _ reduces_S1x240x240_S1 (.inl rfl) rfl one_S1 j).trans ?_
    rw [lead_at, Rarity.vmax_equiv]
  rw [mapMax, h]
  rfl
theorem mapSum_at : mapSum u (ix2 0 0) = ∑ i, u i := by
  have h : multiReduction .add [1, 2] S1 (shapeCast S1x240x240 u shapeCasts_S240x240_S1x240x240) 0x00000000#32
      reduces_S1x240x240_S1 (.inl rfl) rfl = fun _ => ∑ i, u i := funext fun j => by
    refine (Ideal.multiReduction_add_total _ _ reduces_S1x240x240_S1 one_S1 (.inl rfl) rfl j).trans ?_
    rw [lead_at, lead.sum_comp]
  rw [mapSum, h]
  rfl

theorem flat_at (x : FVec Ideal S1x1 .f32) (i : S240x240.Idx) : flat x i = x (ix2 0 0) := by
  rw [eq_ix2 i]
  pointwise

theorem scale_of (a b : FVec Ideal S1x1 .f32) (i : S240x240.Idx) :
    divf (subf u (flat a)) (flat b) i = Ideal.div (u i - a (ix2 0 0)) (b (ix2 0 0)) :=
  congrArg₂ (fun x y => Ideal.div (u i - x) y) (flat_at a i) (flat_at b i)
theorem den_of (a b : FVec Ideal S1x1 .f32) (i : S1x1.Idx) :
    addf (subf a b) (broadcast S1x1 (Scalar.ofBits .f32 0x322BCC77#32)) i = a i - b i + Ideal.ofBits .f32 0x322BCC77#32 := rfl

theorem scale_at : scale u = Rarity.unit eps u := funext fun i => by
  unfold scale
  rw [scale_of, den_of, mapMin_at, mapMax_at, Rarity.ofBits_eps, Rarity.unit]

theorem div_57600 (x : EReal) : Ideal.div x ((57600 : ℝ) : EReal) = x * ((1 / 57600 : ℝ) : EReal) := Ideal.div_coe (by norm_num) x
theorem inv_out_eq : (Named.named κ "inv_out" 0x3791A2B4#32 : Ideal .f32) = ((1 / 57600 : ℝ) : EReal) := rfl

theorem weigh_of (a b : FVec Ideal S1x1 .f32) (c : Ideal .f32) (i : S240x240.Idx) :
    mulf (flat (mulf (subf a (mulf b (broadcast S1x1 c))) (subf a (mulf b (broadcast S1x1 c))))) u i =
    (a (ix2 0 0) - b (ix2 0 0) * c) * (a (ix2 0 0) - b (ix2 0 0) * c) * u i :=
  congrArg (fun x : EReal => x * u i) (flat_at _ i)
theorem weigh_at : weigh u = fun i => Rarity.weight ((57600 : ℝ) : EReal) u * u i := funext fun i => by
  unfold weigh
  rw [weigh_of, mapMax_at, mapSum_at, inv_out_eq, ← div_57600, Rarity.weight]
end

section
variable (r : Vec Ideal S240x56 .f32) (rt : Vec Ideal S56x240 .f32)

theorem enlarge_at (m : Vec Ideal S1x1x56x56 .f32) (y x : Fin 240) : enlarge r rt m (ix2 y x) =
    Rarity.enlarged (fun i y => r (ix2 y i)) (fun j x => rt (ix2 j x)) (fun i j => m (ix4 0 0 i j)) y x := by
  unfold enlarge
  pointwise
  simp only [Rarity.enlarged]

/-- The map's pixels, enlarged. -/
abbrev big (m : Vec Ideal S1x1x56x56 .f32) (i : S240x240.Idx) : EReal :=
  Rarity.enlarged (fun i y => r (ix2 y i)) (fun j x => rt (ix2 j x)) (fun i j => m (ix4 0 0 i j)) (i 0) (i 1)

theorem mapOf_at (m : Vec Ideal S1x1x56x56 .f32) : mapOf r rt m = Rarity.fuseMap eps ((57600 : ℝ) : EReal) (big r rt m) := by
  have h : enlarge r rt m = big r rt m := funext fun i => by
    rw [eq_ix2 i]
    exact enlarge_at r rt m _ _
  rw [mapOf, weigh_at, scale_at, scale_at, h]
  rfl

theorem sum_of (a : Fin 8 → FVec Ideal S240x240 .f32) :
    addf (addf (addf (addf (addf (addf (addf (a 0) (a 1)) (a 2)) (a 3)) (a 4)) (a 5)) (a 6)) (a 7) = fun p => ∑ k, a k p :=
  funext fun p => by
    rw [Fin.sum_univ_eight]
    rfl
theorem times_of (a : FVec Ideal S240x240 .f32) (c : Ideal .f32) (i : S240x240.Idx) :
    mulf a (broadcast S240x240 c) i = a i * c := rfl
theorem ofBits_255 : (Scalar.ofBits .f32 0x437F0000#32 : Ideal .f32) = ((255 : ℝ) : EReal) := Rarity.ofBits_255

theorem groupOf_at (m : Fin 8 → Vec Ideal S1x1x56x56 .f32) : groupOf r rt m =
    Rarity.fuseGroup eps ((57600 : ℝ) : EReal) ((255 : ℝ) : EReal) (fun k => big r rt (m k)) := funext fun i => by
  unfold groupOf
  rw [times_of, sum_of fun k => mapOf r rt (m k), scale_at, ofBits_255, Rarity.fuseGroup]
  simp only [mapOf_at]
end

theorem salOf_at (g : Fin 5 → FVec Ideal S240x240 .f32) : salOf g = Rarity.fuseLast eps g := by
  have h : addf (addf (addf (addf (g 0) (g 1)) (g 2)) (g 3)) (g 4) = fun p => ∑ k, g k p := funext fun p => by
    rw [Fin.sum_univ_five]
    rfl
  rw [salOf, h, scale_at, scale_at]
  rfl

end Cert.KernelIdeal.Own

end
-- ==== Proof.Region1.lean ====
/-
  What the fuse call leaves: the five groups' maps and their sum, from the arrays it reads.
-/
module

public import proofs.«01_k».proof.Proof.Fuse
public import Idealize.ShloMosaic.Lib.WholeRead
public import Idealize.ShloMosaic.Lib.Pointwise
public import Idealize.ShloMosaic.Lib.Pipeline.Value

@[expose] public section

set_option backward.proofsInPublic true

noncomputable section

namespace Cert.KernelIdeal.Own

open Idealize.ShloMosaic Idealize.ShloMosaic.TcCoe Cert.KernelIdeal Cert.KernelIdeal.Gen

variable {F : FTy → Type} [FloatOps F] [Named F]

section
variable (x0 : Vec F S10x4x56x56 .f32) (x1 : Vec F S240x56 .f32) (x2 : Vec F S56x240 .f32)

theorem hz2 : (![0, 0] : Fin 2 → Nat) = fun _ => 0 := by funext a; fin_cases a <;> rfl

theorem ld_r : View.ld x1 r1_0 = x1 := View.ld_unit_zero (S := S240x56) hz2 inb_S240x56_S240x56_0_0 x1
theorem ld_rt : View.ld x2 r1_1 = x2 := View.ld_unit_zero (S := S56x240) hz2 inb_S56x240_S56x240_0_0 x2

/-- A loaded map. -/
theorem ld_map (n b : Nat) (hn : n < 10) (hb : b < 4)
    (h : ∀ a, (![n, b, 0, 0] : Fin 4 → Nat) a + S1x1x56x56.size a ≤ S10x4x56x56.size a) (r c : Fin 56) :
    View.ld x0 (Rect.unit (s := S10x4x56x56) ![n, b, 0, 0] S1x1x56x56.size h) (ix4 0 0 r c : S1x1x56x56.Idx) =
      x0 (ix4 ⟨n, hn⟩ ⟨b, hb⟩ r c) := by
  show x0 _ = x0 _
  congr 1
  funext a; apply Fin.ext
  match a with
  | ⟨0, _⟩ => show n + 1 * 0 = n; omega
  | ⟨1, _⟩ => show b + 1 * 0 = b; omega
  | ⟨2, _⟩ => show 0 + 1 * r.val = r.val; omega
  | ⟨3, _⟩ => show 0 + 1 * c.val = c.val; omega

theorem mapsOf_at (g : Fin 5) (k : Fin 8) (r c : Fin 56) : mapsOf x0 g k (ix4 0 0 r c) =
    x0 (ix4 ⟨(g.val * 8 + k.val) / 4, by omega⟩ ⟨k.val % 4, by omega⟩ r c) := by
  fin_cases g <;> fin_cases k <;> exact ld_map x0 _ _ (by omega) (by omega) _ r c

/-- The groups' maps as one array. -/
def groupArr : Vec F S5x240x240 .f32 := fun y => groups x0 x1 x2 (y 0) (ix2 (y 1) (y 2))

/-- A group's map as the slice that is stored. -/
theorem slice_at (z : FVec F S240x240 .f32) (y : S1x240x240.Idx) :
    shapeCast S1x240x240 z shapeCasts_S240x240_S1x240x240 y = z (ix2 (y 1) (y 2)) := by
  refine shapeCast_apply z shapeCasts_S240x240_S1x240x240 y (ix2 (y 1) (y 2)) ?_
  have h0 : (y 0).val < 1 := (y 0).isLt
  rw [Shape.rowMajor_val_two, Shape.rowMajor_val_three]
  show (y 1).val * 240 + (y 2).val = ((y 0).val * 240 + (y 1).val) * 240 + (y 2).val
  omega

theorem slice_eq (g : Nat) (hg : g < 5) (h : ∀ a, (![g, 0, 0] : Fin 3 → Nat) a + S1x240x240.size a ≤ S5x240x240.size a) (y : S1x240x240.Idx) :
    shapeCast S1x240x240 (groups x0 x1 x2 ⟨g, hg⟩) shapeCasts_S240x240_S1x240x240 y =
      groupArr x0 x1 x2 ((Rect.unit (s := S5x240x240) ![g, 0, 0] S1x240x240.size h).emb y) := by
  have h0 : (y 0).val < 1 := (y 0).isLt
  have e0 : (Rect.unit (s := S5x240x240) ![g, 0, 0] S1x240x240.size h).emb y 0 = (⟨g, hg⟩ : Fin 5) :=
    Fin.ext (by show g + 1 * (y 0).val = g; omega)
  have e1 : (Rect.unit (s := S5x240x240) ![g, 0, 0] S1x240x240.size h).emb y 1 = y 1 :=
    Fin.ext (by show 0 + 1 * (y 1).val = (y 1).val; omega)
  have e2 : (Rect.unit (s := S5x240x240) ![g, 0, 0] S1x240x240.size h).emb y 2 = y 2 :=
    Fin.ext (by show 0 + 1 * (y 2).val = (y 2).val; omega)
  rw [slice_at, groupArr, e0, e1, e2]

theorem out_groupArr : out1_3 x0 x1 x2 = groupArr x0 x1 x2 := by
  rw [out_groups]
  funext y
  have hy : (y 0).val < 5 := (y 0).isLt
  have h1 : (y 1).val < 240 := (y 1).isLt
  have h2 : (y 2).val < 240 := (y 2).isLt
  refine View.canon_apply_of_pieces (groupArr x0 x1 x2) _ (fun q hq => ?_) y ?_
  · simp only [List.mem_cons, List.not_mem_nil, or_false] at hq
    rcases hq with rfl | rfl | rfl | rfl | rfl
    · exact fun x => slice_eq x0 x1 x2 4 (by omega) inb_S5x240x240_S1x240x240_4_0_0 x
    · exact fun x => slice_eq x0 x1 x2 3 (by omega) inb_S5x240x240_S1x240x240_3_0_0 x
    · exact fun x => slice_eq x0 x1 x2 2 (by omega) inb_S5x240x240_S1x240x240_2_0_0 x
    · exact fun x => slice_eq x0 x1 x2 1 (by omega) inb_S5x240x240_S1x240x240_1_0_0 x
    · exact fun x => slice_eq x0 x1 x2 0 (by omega) inb_S5x240x240_S1x240x240_0_0_0 x
  · have key : ∀ (g : Nat) (h : ∀ a, (![g, 0, 0] : Fin 3 → Nat) a + S1x240x240.size a ≤ S5x240x240.size a), (y 0).val = g →
        y ∈ (Rect.unit (s := S5x240x240) ![g, 0, 0] S1x240x240.size h).set := fun g h hg => by
      rw [Rect.mem_set_unit]
      intro a
      match a with
      | ⟨0, _⟩ => show g ≤ (y 0).val ∧ (y 0).val < g + 1; omega
      | ⟨1, _⟩ => show 0 ≤ (y 1).val ∧ (y 1).val < 0 + 240; omega
      | ⟨2, _⟩ => show 0 ≤ (y 2).val ∧ (y 2).val < 0 + 240; omega
    have hc : (y 0).val = 4 ∨ (y 0).val = 3 ∨ (y 0).val = 2 ∨ (y 0).val = 1 ∨ (y 0).val = 0 := by omega
    rcases hc with h | h | h | h | h
    · exact ⟨_, .head _, key 4 inb_S5x240x240_S1x240x240_4_0_0 h⟩
    · exact ⟨_, .tail _ (.head _), key 3 inb_S5x240x240_S1x240x240_3_0_0 h⟩
    · exact ⟨_, .tail _ (.tail _ (.head _)), key 2 inb_S5x240x240_S1x240x240_2_0_0 h⟩
    · exact ⟨_, .tail _ (.tail _ (.tail _ (.head _))), key 1 inb_S5x240x240_S1x240x240_1_0_0 h⟩
    · exact ⟨_, .tail _ (.tail _ (.tail _ (.tail _ (.head _)))), key 0 inb_S5x240x240_S1x240x240_0_0_0 h⟩

theorem out_salArr : out1_4 x0 x1 x2 = salOf (groups x0 x1 x2) := by
  rw [out_sal]
  exact View.canon_unit_zero (S := S240x240) hz2 inb_S240x240_S240x240_0_0 _

end

/-! ## The windows: each is the whole array -/

theorem idxF0 : ∀ t : Fin cfg1.N, win1_0.index t (0 : Fin 4) = 0 ∧ win1_0.index t (1 : Fin 4) = 0
    ∧ win1_0.index t (2 : Fin 4) = 0 ∧ win1_0.index t (3 : Fin 4) = 0 :=
  (by decide +kernel : ∀ t : Fin grid1.N, _)
theorem idxF1 : ∀ t : Fin cfg1.N, win1_1.index t (0 : Fin 2) = 0 ∧ win1_1.index t (1 : Fin 2) = 0 :=
  (by decide +kernel : ∀ t : Fin grid1.N, _)
theorem idxF2 : ∀ t : Fin cfg1.N, win1_2.index t (0 : Fin 2) = 0 ∧ win1_2.index t (1 : Fin 2) = 0 :=
  (by decide +kernel : ∀ t : Fin grid1.N, _)
theorem idxF3 : ∀ t : Fin cfg1.N, win1_3.index t (0 : Fin 3) = 0 ∧ win1_3.index t (1 : Fin 3) = 0 ∧ win1_3.index t (2 : Fin 3) = 0 :=
  (by decide +kernel : ∀ t : Fin grid1.N, _)
theorem idxF4 : ∀ t : Fin cfg1.N, win1_4.index t (0 : Fin 2) = 0 ∧ win1_4.index t (1 : Fin 2) = 0 :=
  (by decide +kernel : ∀ t : Fin grid1.N, _)

theorem embF0 (t : Fin cfg1.N) (j : S10x4x56x56.Idx) : ((cfg1.win 0).blk t).view.emb j = j := by
  obtain ⟨e0, e1, e2, e3⟩ := idxF0 t
  funext a; apply Fin.ext
  match a with
  | ⟨0, _⟩ => show win1_0.index t (0 : Fin 4) * 10 + 1 * (j 0).val = (j 0).val; omega
  | ⟨1, _⟩ => show win1_0.index t (1 : Fin 4) * 4 + 1 * (j 1).val = (j 1).val; omega
  | ⟨2, _⟩ => show win1_0.index t (2 : Fin 4) * 56 + 1 * (j 2).val = (j 2).val; omega
  | ⟨3, _⟩ => show win1_0.index t (3 : Fin 4) * 56 + 1 * (j 3).val = (j 3).val; omega
theorem embF1 (t : Fin cfg1.N) (j : S240x56.Idx) : ((cfg1.win 1).blk t).view.emb j = j := by
  obtain ⟨e0, e1⟩ := idxF1 t
  funext a; apply Fin.ext
  match a with
  | ⟨0, _⟩ => show win1_1.index t (0 : Fin 2) * 240 + 1 * (j 0).val = (j 0).val; omega
  | ⟨1, _⟩ => show win1_1.index t (1 : Fin 2) * 56 + 1 * (j 1).val = (j 1).val; omega
theorem embF2 (t : Fin cfg1.N) (j : S56x240.Idx) : ((cfg1.win 2).blk t).view.emb j = j := by
  obtain ⟨e0, e1⟩ := idxF2 t
  funext a; apply Fin.ext
  match a with
  | ⟨0, _⟩ => show win1_2.index t (0 : Fin 2) * 56 + 1 * (j 0).val = (j 0).val; omega
  | ⟨1, _⟩ => show win1_2.index t (1 : Fin 2) * 240 + 1 * (j 1).val = (j 1).val; omega
theorem embF3 (t : Fin cfg1.N) (j : S5x240x240.Idx) : ((cfg1.win 3).blk t).view.emb j = j := by
  obtain ⟨e0, e1, e2⟩ := idxF3 t
  funext a; apply Fin.ext
  match a with
  | ⟨0, _⟩ => show win1_3.index t (0 : Fin 3) * 5 + 1 * (j 0).val = (j 0).val; omega
  | ⟨1, _⟩ => show win1_3.index t (1 : Fin 3) * 240 + 1 * (j 1).val = (j 1).val; omega
  | ⟨2, _⟩ => show win1_3.index t (2 : Fin 3) * 240 + 1 * (j 2).val = (j 2).val; omega
theorem embF4 (t : Fin cfg1.N) (j : S240x240.Idx) : ((cfg1.win 4).blk t).view.emb j = j := by
  obtain ⟨e0, e1⟩ := idxF4 t
  funext a; apply Fin.ext
  match a with
  | ⟨0, _⟩ => show win1_4.index t (0 : Fin 2) * 240 + 1 * (j 0).val = (j 0).val; omega
  | ⟨1, _⟩ => show win1_4.index t (1 : Fin 2) * 240 + 1 * (j 1).val = (j 1).val; omega

section
variable (V : (c : Dev nD) → (b : Ref sig .tc) → Buf (Elt F) ((c : Thread nD τ).loc b)) (c : Dev nD) (t : Fin cfg1.N)

theorem iblk1_maps : iblk1 V c 0 t = V c main_v2 := by
  funext j; show V c main_v2 (((cfg1.win 0).blk t).view.emb j) = _; rw [embF0]
theorem iblk1_r : iblk1 V c 1 t = V c main_v46 := by
  funext j; show V c main_v46 (((cfg1.win 1).blk t).view.emb j) = _; rw [embF1]
theorem iblk1_rt : iblk1 V c 2 t = V c main_v47 := by
  funext j; show V c main_v47 (((cfg1.win 2).blk t).view.emb j) = _; rw [embF2]

theorem flushed_groups : (dat1 V c).flushed 3 t =
    ((cfg1.win 3).blk t).view.read (Elt F) (groupArr (V c main_v2) (V c main_v46) (V c main_v47)) := by
  show (cfg1.win 3).cut (grid1.coords t) ((dat1 V c).after 3 t) = _
  rw [after1_3, out_groupArr, iblk1_maps, iblk1_r, iblk1_rt]
  funext j
  show groupArr _ _ _ j = groupArr _ _ _ (((cfg1.win 3).blk t).view.emb j)
  rw [embF3]

theorem flushed_sal : (dat1 V c).flushed 4 t =
    ((cfg1.win 4).blk t).view.read (Elt F) (salOf (groups (V c main_v2) (V c main_v46) (V c main_v47))) := by
  show (cfg1.win 4).cut (grid1.coords t) ((dat1 V c).after 4 t) = _
  rw [after1_4, out_salArr, iblk1_maps, iblk1_r, iblk1_rt]
  funext j
  show salOf _ j = salOf _ (((cfg1.win 4).blk t).view.emb j)
  rw [embF4]

theorem final_groups : (dat1 V c).arrAt 3 cfg1.N = groupArr (V c main_v2) (V c main_v46) (V c main_v47) :=
  (dat1 V c).arrAt_eq_of_cover 3 _ (fun t _ => flushed_groups V c t) fun (y : S5x240x240.Idx) =>
    ⟨t1_0, flush1_3 _, by have h := ((cfg1.win 3).blk t1_0).view.emb_mem_set y; rwa [embF3] at h⟩

theorem final_sal : (dat1 V c).arrAt 4 cfg1.N = salOf (groups (V c main_v2) (V c main_v46) (V c main_v47)) :=
  (dat1 V c).arrAt_eq_of_cover 4 _ (fun t _ => flushed_sal V c t) fun (y : S240x240.Idx) =>
    ⟨t1_0, flush1_4 _, by have h := ((cfg1.win 4).blk t1_0).view.emb_mem_set y; rwa [embF4] at h⟩

end

end Cert.KernelIdeal.Own

end
-- ==== Proof.RefFuse.lean ====
/-
  The reference's enlarging and fusing stages, read at their indices at the extended reals.
-/
module

public import proofs.«01_k».proof.Proof.Gen.ReferenceIdeal.Read
public import proofs.«01_k».proof.Proof.FuseMath

@[expose] public section

noncomputable section

namespace Cert.ReferenceIdeal.Own

open Idealize.ShloMosaic Cert.ReferenceIdeal Cert.ReferenceIdeal.Read Cert.ReferenceIdeal.Gen
open Rarity (vmin vmax eps)

variable (x0 : (⟨S17x4x192x56x56, .f32⟩ : BufTy).Contents (Elt Ideal)) (g : Fin 5) (k : Fin 8) (q : Fin 57600)

/-! ## Reductions along the pixels -/

theorem min_maps (y : FVec Ideal S5x8x57600 .f32) (c : FVec Ideal S_ .f32) (hc : c (Shape.Idx.first h_S_) = Ideal.ofBits .f32 0x7F800000#32) :
    Host.reduce FloatOps.minimumf y c reducesTo_S5x8x57600_S5x8_d2 h_S_ (ix2 g k) = vmin fun p => y (ix3 g k p) := by
  pointwise
  rw [hc]
  exact Rarity.fold_min_top _
theorem max_maps (y : FVec Ideal S5x8x57600 .f32) (c : FVec Ideal S_ .f32) (hc : c (Shape.Idx.first h_S_) = Ideal.ofBits .f32 0xFF800000#32) :
    Host.reduce FloatOps.maximumf y c reducesTo_S5x8x57600_S5x8_d2 h_S_ (ix2 g k) = vmax fun p => y (ix3 g k p) := by
  pointwise
  rw [hc]
  exact Rarity.fold_max_bot _
theorem min_groups (y : FVec Ideal S5x57600 .f32) (c : FVec Ideal S_ .f32) (hc : c (Shape.Idx.first h_S_) = Ideal.ofBits .f32 0x7F800000#32) :
    Host.reduce FloatOps.minimumf y c reducesTo_S5x57600_S5_d1 h_S_ (ix1 g) = vmin fun p => y (ix2 g p) := by
  pointwise
  rw [hc]
  exact Rarity.fold_min_top _
theorem max_groups (y : FVec Ideal S5x57600 .f32) (c : FVec Ideal S_ .f32) (hc : c (Shape.Idx.first h_S_) = Ideal.ofBits .f32 0xFF800000#32) :
    Host.reduce FloatOps.maximumf y c reducesTo_S5x57600_S5_d1 h_S_ (ix1 g) = vmax fun p => y (ix2 g p) := by
  pointwise
  rw [hc]
  exact Rarity.fold_max_bot _
theorem min_last (y : FVec Ideal S1x57600 .f32) (c : FVec Ideal S_ .f32) (hc : c (Shape.Idx.first h_S_) = Ideal.ofBits .f32 0x7F800000#32) :
    Host.reduce FloatOps.minimumf y c reducesTo_S1x57600_S1_d1 h_S_ (ix1 0) = vmin fun p => y (ix2 0 p) := by
  pointwise
  rw [hc]
  exact Rarity.fold_min_top _
theorem max_last (y : FVec Ideal S1x57600 .f32) (c : FVec Ideal S_ .f32) (hc : c (Shape.Idx.first h_S_) = Ideal.ofBits .f32 0xFF800000#32) :
    Host.reduce FloatOps.maximumf y c reducesTo_S1x57600_S1_d1 h_S_ (ix1 0) = vmax fun p => y (ix2 0 p) := by
  pointwise
  rw [hc]
  exact Rarity.fold_max_bot _

/-! ## The maps -/

/-- A map's pixels, enlarged. -/
def u (q : Fin 57600) : EReal := val_main_v209 (F := Ideal) x0 (ix3 g k q)

theorem v220_at : val_main_v220 (F := Ideal) x0 (ix3 g k q) = Rarity.unit eps (u x0 g k) q := by
  have e1 : idx_main_v211 (idx_main_v214 (ix3 g k q)) = ix2 g k := by funext a; fin_cases a <;> rfl
  have e2 : idx_main_v213 (idx_main_v219 (ix3 g k q)) = ix2 g k := by funext a; fin_cases a <;> rfl
  have e3 : val_main_v210 (F := Ideal) x0 (ix2 g k) = vmin (u x0 g k) := min_maps g k _ _ rfl
  have e4 : val_main_v212 (F := Ideal) x0 (ix2 g k) = vmax (u x0 g k) := max_maps g k _ _ rfl
  rw [val_main_v220_apply, val_main_v215_apply, val_main_v214_apply, val_main_v211_apply, val_main_v219_apply,
    val_main_v218_apply, val_main_v216_apply, val_main_v213_apply, val_main_v211_apply, val_main_v217_apply, val_main_cst_71_apply]
  simp only [e1, e2, e3, e4, Ideal.ofBits_def, Rarity.ofBits_eps]
  rfl
theorem v231_at : val_main_v231 (F := Ideal) x0 (ix3 g k q) = Rarity.unit eps (Rarity.unit eps (u x0 g k)) q := by
  have e1 : idx_main_v222 (idx_main_v225 (ix3 g k q)) = ix2 g k := by funext a; fin_cases a <;> rfl
  have e2 : idx_main_v224 (idx_main_v230 (ix3 g k q)) = ix2 g k := by funext a; fin_cases a <;> rfl
  have e3 : val_main_v221 (F := Ideal) x0 (ix2 g k) = vmin (Rarity.unit eps (u x0 g k)) :=
    (min_maps g k _ _ rfl).trans (congrArg vmin (funext fun p => v220_at x0 g k p))
  have e4 : val_main_v223 (F := Ideal) x0 (ix2 g k) = vmax (Rarity.unit eps (u x0 g k)) :=
    (max_maps g k _ _ rfl).trans (congrArg vmax (funext fun p => v220_at x0 g k p))
  rw [val_main_v231_apply, val_main_v226_apply, val_main_v225_apply, val_main_v222_apply, val_main_v230_apply,
    val_main_v229_apply, val_main_v227_apply, val_main_v224_apply, val_main_v222_apply, val_main_v228_apply, val_main_cst_74_apply]
  simp only [e1, e2, e3, e4, v220_at, Ideal.ofBits_def, Rarity.ofBits_eps]
  rfl
theorem v239_at : val_main_v239 (F := Ideal) x0 (ix3 g k 0) =
    Rarity.weight ((57600 : ℝ) : EReal) (Rarity.unit eps (Rarity.unit eps (u x0 g k))) := by
  have e1 : idx_main_v233 (ix3 g k 0) = ix2 g k := by funext a; fin_cases a <;> rfl
  have e2 : idx_main_v235 (ix3 g k 0) = ix2 g k := by funext a; fin_cases a <;> rfl
  have e3 : ∀ p, idx_main_v234 (ix2 g k) p = ix3 g k p := fun p => by funext a; fin_cases a <;> rfl
  have e4 : val_main_v232 (F := Ideal) x0 (ix2 g k) = vmax (Rarity.unit eps (Rarity.unit eps (u x0 g k))) :=
    (max_maps g k _ _ rfl).trans (congrArg vmax (funext fun p => v231_at x0 g k p))
  rw [val_main_v239_apply, val_main_v238_apply, val_main_v233_apply, val_main_v237_apply, val_main_v235_apply, e1, e4]
  rw [val_main_v234_apply, val_main_v236_apply, val_main_cst_76_apply, val_main_cst_77_apply]
  simp only [e2, e3, v231_at, Ideal.ofBits_def, Ideal.ofBits_zero_f32, Rarity.ofBits_57600, zero_add]
  rfl
theorem v241_at : val_main_v241 (F := Ideal) x0 (ix3 g k q) = Rarity.fuseMap eps ((57600 : ℝ) : EReal) (u x0 g k) q := by
  have e1 : idx_main_v240 (ix3 g k q) = ix3 g k 0 := by funext a; fin_cases a <;> rfl
  rw [val_main_v241_apply, val_main_v240_apply, e1, v239_at, v231_at]
  rfl

/-! ## The groups -/

theorem v242_at : val_main_v242 (F := Ideal) x0 (ix2 g q) = ∑ k, Rarity.fuseMap eps ((57600 : ℝ) : EReal) (u x0 g k) q := by
  have e1 : ∀ k, idx_main_v242 (ix2 g q) k = ix3 g k q := fun k => by funext a; fin_cases a <;> rfl
  rw [val_main_v242_apply, val_main_cst_78_apply, Ideal.ofBits_def, Ideal.ofBits_zero_f32, zero_add]
  exact Finset.sum_congr rfl fun k _ => by rw [e1, v241_at]
theorem v255_at : val_main_v255 (F := Ideal) x0 (ix2 g q) =
    Rarity.fuseGroup eps ((57600 : ℝ) : EReal) ((255 : ℝ) : EReal) (u x0 g) q := by
  have e1 : idx_main_v244 (idx_main_v247 (ix2 g q)) = ix1 g := by funext a; fin_cases a <;> rfl
  have e2 : idx_main_v246 (idx_main_v252 (ix2 g q)) = ix1 g := by funext a; fin_cases a <;> rfl
  have e3 : val_main_v243 (F := Ideal) x0 (ix1 g) = vmin fun q => ∑ k, Rarity.fuseMap eps ((57600 : ℝ) : EReal) (u x0 g k) q :=
    (min_groups g _ _ rfl).trans (congrArg vmin (funext fun p => v242_at x0 g p))
  have e4 : val_main_v245 (F := Ideal) x0 (ix1 g) = vmax fun q => ∑ k, Rarity.fuseMap eps ((57600 : ℝ) : EReal) (u x0 g k) q :=
    (max_groups g _ _ rfl).trans (congrArg vmax (funext fun p => v242_at x0 g p))
  rw [val_main_v255_apply, val_main_v253_apply, val_main_v248_apply, val_main_v247_apply, val_main_v244_apply, val_main_v252_apply,
    val_main_v251_apply, val_main_v249_apply, val_main_v246_apply, val_main_v244_apply, val_main_v250_apply, val_main_v254_apply,
    val_main_cst_81_apply, val_main_cst_82_apply]
  simp only [e1, e2, e3, e4, v242_at, Ideal.ofBits_def, Rarity.ofBits_eps, Rarity.ofBits_255]
  rfl

/-- A row and a column as one pixel number. -/
def pix (r c : Fin 240) : Fin 57600 := ⟨r.val * 240 + c.val, by omega⟩

theorem v256_at (r c : Fin 240) : val_main_v256 (F := Ideal) x0 (ix4 0 g r c) =
    Rarity.fuseGroup eps ((57600 : ℝ) : EReal) ((255 : ℝ) : EReal) (u x0 g) (pix r c) := by
  have e : idx_main_v256 (ix4 0 g r c) = ix2 g (pix r c) := by
    have := g.isLt; have := r.isLt; have := c.isLt
    funext a
    match a with
    | ⟨0, _⟩ => exact Fin.ext (by show (((0 * 5 + g.val) * 240 + r.val) * 240 + c.val) / 57600 = g.val; omega)
    | ⟨1, _⟩ => exact Fin.ext (by show (((0 * 5 + g.val) * 240 + r.val) * 240 + c.val) % 57600 = r.val * 240 + c.val; omega)
  rw [val_main_v256_apply, e, v255_at]

/-! ## The last map -/

theorem v258_at : val_main_v258 (F := Ideal) x0 (ix2 0 q) =
    ∑ g, Rarity.fuseGroup eps ((57600 : ℝ) : EReal) ((255 : ℝ) : EReal) (u x0 g) q := by
  have e : ∀ g, idx_main_v257 (idx_main_v258 (ix2 0 q)) g = ix4 0 g ⟨q.val / 240, by omega⟩ ⟨q.val % 240, by omega⟩ := fun g => by
    have := q.isLt
    funext a
    match a with
    | ⟨0, _⟩ => rfl
    | ⟨1, _⟩ => rfl
    | ⟨2, _⟩ => exact Fin.ext (by show (0 * 57600 + q.val) / 240 % 240 = q.val / 240; omega)
    | ⟨3, _⟩ => exact Fin.ext (by show (0 * 57600 + q.val) % 240 = q.val % 240; omega)
  have ep : pix ⟨q.val / 240, by omega⟩ ⟨q.val % 240, by omega⟩ = q := Fin.ext (by
    show q.val / 240 * 240 + q.val % 240 = q.val; omega)
  rw [val_main_v258_apply, val_main_v257_apply, val_main_cst_83_apply, Ideal.ofBits_def, Ideal.ofBits_zero_f32, zero_add]
  exact Finset.sum_congr rfl fun g _ => by rw [e, v256_at, ep]
theorem hostExp (x : EReal) : (FloatOps.hostUnary (F := Ideal) (φ := .f32) .exp x) = Ideal.exp x := rfl
theorem v270_at : val_main_v270 (F := Ideal) x0 (ix2 0 q) = Ideal.exp (Rarity.unit eps
    (fun q => ∑ g, Rarity.fuseGroup eps ((57600 : ℝ) : EReal) ((255 : ℝ) : EReal) (u x0 g) q) q) := by
  have e1 : idx_main_v260 (idx_main_v263 (ix2 0 q)) = ix1 0 := by funext a; fin_cases a <;> rfl
  have e2 : idx_main_v262 (idx_main_v268 (ix2 0 q)) = ix1 0 := by funext a; fin_cases a <;> rfl
  have e3 : val_main_v259 (F := Ideal) x0 (ix1 0) =
      vmin fun q => ∑ g, Rarity.fuseGroup eps ((57600 : ℝ) : EReal) ((255 : ℝ) : EReal) (u x0 g) q :=
    (min_last _ _ rfl).trans (congrArg vmin (funext fun p => v258_at x0 p))
  have e4 : val_main_v261 (F := Ideal) x0 (ix1 0) =
      vmax fun q => ∑ g, Rarity.fuseGroup eps ((57600 : ℝ) : EReal) ((255 : ℝ) : EReal) (u x0 g) q :=
    (max_last _ _ rfl).trans (congrArg vmax (funext fun p => v258_at x0 p))
  rw [val_main_v270_apply, val_main_v269_apply, val_main_v264_apply, val_main_v263_apply, val_main_v260_apply, val_main_v268_apply,
    val_main_v267_apply, val_main_v265_apply, val_main_v262_apply, val_main_v260_apply, val_main_v266_apply, val_main_cst_86_apply]
  simp only [e1, e2, e3, e4, v258_at, Ideal.ofBits_def, Rarity.ofBits_eps]
  rw [Rarity.unit]
  exact hostExp _
theorem v281_at : val_main_v281 (F := Ideal) x0 (ix2 0 q) =
    Rarity.fuseLast eps (fun g => Rarity.fuseGroup eps ((57600 : ℝ) : EReal) ((255 : ℝ) : EReal) (u x0 g)) q := by
  have e1 : idx_main_v272 (idx_main_v275 (ix2 0 q)) = ix1 0 := by funext a; fin_cases a <;> rfl
  have e2 : idx_main_v274 (idx_main_v280 (ix2 0 q)) = ix1 0 := by funext a; fin_cases a <;> rfl
  have e3 : val_main_v271 (F := Ideal) x0 (ix1 0) = vmin fun q => Ideal.exp (Rarity.unit eps
      (fun q => ∑ g, Rarity.fuseGroup eps ((57600 : ℝ) : EReal) ((255 : ℝ) : EReal) (u x0 g) q) q) :=
    (min_last _ _ rfl).trans (congrArg vmin (funext fun p => v270_at x0 p))
  have e4 : val_main_v273 (F := Ideal) x0 (ix1 0) = vmax fun q => Ideal.exp (Rarity.unit eps
      (fun q => ∑ g, Rarity.fuseGroup eps ((57600 : ℝ) : EReal) ((255 : ℝ) : EReal) (u x0 g) q) q) :=
    (max_last _ _ rfl).trans (congrArg vmax (funext fun p => v270_at x0 p))
  rw [val_main_v281_apply, val_main_v276_apply, val_main_v275_apply, val_main_v272_apply, val_main_v280_apply,
    val_main_v279_apply, val_main_v277_apply, val_main_v274_apply, val_main_v272_apply, val_main_v278_apply, val_main_cst_89_apply]
  simp only [e1, e2, e3, e4, v270_at, Ideal.ofBits_def, Rarity.ofBits_eps]
  rfl
theorem v282_at (r c : Fin 240) : val_main_v282 (F := Ideal) x0 (ix3 0 r c) =
    Rarity.fuseLast eps (fun g => Rarity.fuseGroup eps ((57600 : ℝ) : EReal) ((255 : ℝ) : EReal) (u x0 g)) (pix r c) := by
  have e : idx_main_v282 (ix3 0 r c) = ix2 0 (pix r c) := by
    have := r.isLt; have := c.isLt
    funext a
    match a with
    | ⟨0, _⟩ => rfl
    | ⟨1, _⟩ => exact Fin.ext (by show ((0 * 240 + r.val) * 240 + c.val) % 57600 = r.val * 240 + c.val; omega)
  rw [val_main_v282_apply, e, v281_at]

/-! ## The enlarging -/

/-- The image of a map of a group, and its batch element. -/
def imgNo (g : Fin 5) (k : Fin 8) : Fin 10 := ⟨(g.val * 8 + k.val) / 4, by omega⟩
def batNo (k : Fin 8) : Fin 4 := ⟨k.val % 4, by omega⟩

theorem u_at : u x0 g k q = Rarity.enlarged (fun i y => val_main_v162 (F := Ideal) (ix2 i y)) (fun j x => val_main_v205 (F := Ideal) (ix2 j x))
    (fun i j => val_main_v119 (F := Ideal) x0 (ix4 (imgNo g k) (batNo k) i j)) ⟨q.val / 240, by omega⟩ ⟨q.val % 240, by omega⟩ := by
  have e1 : idx_main_v208 (idx_main_v209 (ix3 g k q)) = ix4 ⟨q.val / 240, by omega⟩ (imgNo g k) (batNo k) ⟨q.val % 240, by omega⟩ := by
    have := g.isLt; have := k.isLt; have := q.isLt
    funext a
    match a with
    | ⟨0, _⟩ => exact Fin.ext (by show ((g.val * 8 + k.val) * 57600 + q.val) / 240 % 240 = q.val / 240; omega)
    | ⟨1, _⟩ => exact Fin.ext (by show ((g.val * 8 + k.val) * 57600 + q.val) / 230400 = (g.val * 8 + k.val) / 4; omega)
    | ⟨2, _⟩ => exact Fin.ext (by show ((g.val * 8 + k.val) * 57600 + q.val) / 57600 % 4 = k.val % 4; omega)
    | ⟨3, _⟩ => exact Fin.ext (by show ((g.val * 8 + k.val) * 57600 + q.val) % 240 = q.val % 240; omega)
  have e2 : ∀ (y x : Fin 240) n b (j : Fin 56), lidx_main_v207 (ix4 y n b x) j = ix4 y n b j := fun _ _ _ _ _ => by funext a; fin_cases a <;> rfl
  have e3 : ∀ (y x : Fin 240) n b (j : Fin 56), ridx_main_v207 (ix4 y n b x) j = ix2 j x := fun _ _ _ _ _ => by funext a; fin_cases a <;> rfl
  have e4 : ∀ (y : Fin 240) n b (j i : Fin 56), lidx_main_v206 (ix4 y n b j) i = ix2 i y := fun _ _ _ _ _ => by funext a; fin_cases a <;> rfl
  have e5 : ∀ (y : Fin 240) n b (j i : Fin 56), ridx_main_v206 (ix4 y n b j) i = ix4 n b i j := fun _ _ _ _ _ => by funext a; fin_cases a <;> rfl
  rw [u, val_main_v209_apply, val_main_v208_apply, e1, val_main_v207_apply]
  simp only [e2, e3, val_main_v206_apply, e4, e5]
  rfl

end Cert.ReferenceIdeal.Own

end
-- ==== Proof.Weights.lean ====
/-
  The weights of the enlargement: the host operations before the second call compute what the reference computes.
-/
module

public import proofs.«01_k».proof.Proof.Gen.KernelIdeal.Frame
public import proofs.«01_k».proof.Proof.Gen.ReferenceIdeal.Read
public import Idealize.ShloMosaic.Lib.StableHlo.RunRead

@[expose] public section

noncomputable section

namespace Cert.KernelIdeal.Own

open Idealize.ShloMosaic Idealize.ShloMosaic.TcCoe Cert.KernelIdeal Cert.KernelIdeal.Gen Cert.ReferenceIdeal.Read

variable {F : FTy → Type} [FloatOps F] [Named F] (V : Valuation τ sig (Elt F))

theorem taps : (StableHlo.after hostOps1 V (Proc.devRef .tc main_v12) : FVec F S240 .f32) = val_main_v129 (F := F) := by
  after_reads_simp
  rfl

theorem hats : (StableHlo.after hostOps1 V (Proc.devRef .tc main_v27) : FVec F S56x240 .f32) = val_main_v144 (F := F) := by
  after_reads_simp
  rfl

theorem sums : (StableHlo.after hostOps1 V (Proc.devRef .tc main_v29) : FVec F S1x240 .f32) = val_main_v146 (F := F) := by
  after_reads_simp
  rfl

theorem large : (StableHlo.after hostOps1 V (Proc.devRef .tc main_v32) : IVec S1x240 1) = val_main_v149 (F := F) := by
  after_reads_simp
  rfl

theorem nonzero : (StableHlo.after hostOps1 V (Proc.devRef .tc main_v34) : IVec S1x240 1) = val_main_v151 (F := F) := by
  after_reads_simp
  rfl

theorem unit_word : (StableHlo.after hostOps1 V (Proc.devRef .tc main_c) : IVec S_ 32) = val_main_c_48 (F := F) := by
  after_reads_simp
  rfl

/-! ## The stretches one after another -/

section
variable (m : (ℓ : Loc nD τ sig) → Buf (Elt F) ℓ) (ρ : Dev nD → PrngReg) (c : Dev nD)

theorem divisors (h34 : (V (Proc.devRef .tc main_v34) : IVec S1x240 1) = val_main_v151 (F := F))
    (h29 : (V (Proc.devRef .tc main_v29) : FVec F S1x240 .f32) = val_main_v146 (F := F))
    (hc : (V (Proc.devRef .tc main_c) : IVec S_ 32) = val_main_c_48 (F := F)) :
    (StableHlo.after hostOps1_1 V (Proc.devRef .tc main_v35) : FVec F S1x240 .f32) = val_main_v152 (F := F) := by
  after_reads_simp
  simp only [h34, h29, hc]
  rfl

theorem quotients (h35 : (V (Proc.devRef .tc main_v35) : FVec F S1x240 .f32) = val_main_v152 (F := F))
    (h27 : (V (Proc.devRef .tc main_v27) : FVec F S56x240 .f32) = val_main_v144 (F := F)) :
    (StableHlo.after hostOps1_2 V (Proc.devRef .tc main_v37) : FVec F S56x240 .f32) = val_main_v154 (F := F) := by
  after_reads_simp
  simp only [h35, h27]
  rfl

theorem zero_word : (StableHlo.after hostOps1_2 V (Proc.devRef .tc main_c_12) : IVec S_ 32) = val_main_c_49 (F := F) := by
  after_reads_simp
  rfl

theorem chosen (hc : (V (Proc.devRef .tc main_c_12) : IVec S_ 32) = val_main_c_49 (F := F))
    (h32 : (V (Proc.devRef .tc main_v32) : IVec S1x240 1) = val_main_v149 (F := F))
    (h37 : (V (Proc.devRef .tc main_v37) : FVec F S56x240 .f32) = val_main_v154 (F := F)) :
    (StableHlo.after hostOps1_3 V (Proc.devRef .tc main_v38) : FVec F S56x240 .f32) = val_main_v155 (F := F) := by
  after_reads_simp
  simp only [h32, h37, hc]
  rfl

theorem inRange (h12 : (V (Proc.devRef .tc main_v12) : FVec F S240 .f32) = val_main_v129 (F := F)) :
    (StableHlo.after hostOps1_4 V (Proc.devRef .tc main_v44) : IVec S1x240 1) = val_main_v161 (F := F) := by
  after_reads_simp
  simp only [h12]
  rfl

theorem zero_word' : (StableHlo.after hostOps1_4 V (Proc.devRef .tc main_c_15) : IVec S_ 32) = val_main_c_52 (F := F) := by
  after_reads_simp
  rfl

theorem final (hc : (V (Proc.devRef .tc main_c_15) : IVec S_ 32) = val_main_c_52 (F := F))
    (h44 : (V (Proc.devRef .tc main_v44) : IVec S1x240 1) = val_main_v161 (F := F))
    (h38 : (V (Proc.devRef .tc main_v38) : FVec F S56x240 .f32) = val_main_v155 (F := F)) :
    (StableHlo.after hostOps1_5 V (Proc.devRef .tc main_v45) : FVec F S56x240 .f32) = val_main_v162 (F := F) := by
  after_reads_simp
  simp only [h44, h38, hc]
  rfl

theorem W4_sums : (W4 m ρ c (Proc.devRef .tc main_v35) : FVec F S1x240 .f32) = val_main_v152 (F := F) :=
  divisors _ (nonzero _) (sums _) (unit_word _)
theorem W5_quotients : (W5 m ρ c (Proc.devRef .tc main_v37) : FVec F S56x240 .f32) = val_main_v154 (F := F) :=
  quotients _ (W4_sums m ρ c) ((W4_of m ρ c main_v27 (by decide)).trans (hats _))
theorem W6_chosen : (W6 m ρ c (Proc.devRef .tc main_v38) : FVec F S56x240 .f32) = val_main_v155 (F := F) :=
  chosen _ (zero_word _) ((W5_of m ρ c main_v32 (by decide)).trans ((W4_of m ρ c main_v32 (by decide)).trans (large _)))
    (W5_quotients m ρ c)
theorem W7_inRange : (W7 m ρ c (Proc.devRef .tc main_v44) : IVec S1x240 1) = val_main_v161 (F := F) :=
  inRange _ ((W6_of m ρ c main_v12 (by decide)).trans ((W5_of m ρ c main_v12 (by decide)).trans
    ((W4_of m ρ c main_v12 (by decide)).trans (taps _))))
/-- The weights before the second call. -/
theorem W8_weights : (W8 m ρ c (Proc.devRef .tc main_v45) : FVec F S56x240 .f32) = val_main_v162 (F := F) :=
  final _ (zero_word' _) (W7_inRange m ρ c) ((W7_of m ρ c main_v38 (by decide)).trans (W6_chosen m ρ c))

theorem turned (h45 : (V (Proc.devRef .tc main_v45) : FVec F S56x240 .f32) = val_main_v162 (F := F)) :
    (StableHlo.after hostOps1_6 V (Proc.devRef .tc main_v46) : FVec F S240x56 .f32) =
      transpose S240x56 [1, 0] (val_main_v162 (F := F)) transposes_S56x240_S240x56_1_0 := by
  after_reads_simp
  simp only [h45]
theorem turnedTwice (h45 : (V (Proc.devRef .tc main_v45) : FVec F S56x240 .f32) = val_main_v162 (F := F)) :
    (StableHlo.after hostOps1_6 V (Proc.devRef .tc main_v47) : FVec F S56x240 .f32) =
      transpose S56x240 [1, 0] (transpose S240x56 [1, 0] (val_main_v162 (F := F)) transposes_S56x240_S240x56_1_0)
        transposes_S240x56_S56x240_1_0 := by
  after_reads_simp
  simp only [h45]

/-- The weights the second call reads, transposed … -/
theorem W9_weightsT : (W9 m ρ c (Proc.devRef .tc main_v46) : FVec F S240x56 .f32) =
    transpose S240x56 [1, 0] (val_main_v162 (F := F)) transposes_S56x240_S240x56_1_0 := turned _ (W8_weights m ρ c)
/-- … and twice transposed. -/
theorem W9_weights : (W9 m ρ c (Proc.devRef .tc main_v47) : FVec F S56x240 .f32) =
    transpose S56x240 [1, 0] (transpose S240x56 [1, 0] (val_main_v162 (F := F)) transposes_S56x240_S240x56_1_0)
      transposes_S240x56_S56x240_1_0 := turnedTwice _ (W8_weights m ρ c)

end

/-- The reference computes its weights twice. -/
theorem twice : val_main_v205 (F := F) = val_main_v162 (F := F) := rfl

end Cert.KernelIdeal.Own

end
-- ==== Proof.JoinFuse.lean ====
/-
  The groups' maps and their sum are the reference's.
-/
module

public import proofs.«01_k».proof.Proof.FuseAt
public import proofs.«01_k».proof.Proof.Region1
public import proofs.«01_k».proof.Proof.RefFuse
public import proofs.«01_k».proof.Proof.Weights

@[expose] public section

set_option backward.proofsInPublic true

noncomputable section

namespace Cert.KernelIdeal.Own

open Idealize.ShloMosaic Cert.KernelIdeal Cert.KernelIdeal.Gen
open Rarity (eps fuseGroup fuseLast enlarged)

/-- A flat pixel as row and column. -/
def unflat : Fin 57600 ≃ S240x240.Idx where
  toFun q := ix2 ⟨q.val / 240, by omega⟩ ⟨q.val % 240, by omega⟩
  invFun i := ⟨(i 0).val * 240 + (i 1).val, by have h0 : (i 0).val < 240 := (i 0).isLt; have h1 : (i 1).val < 240 := (i 1).isLt; omega⟩
  left_inv q := Fin.ext (by show q.val / 240 * 240 + q.val % 240 = q.val; omega)
  right_inv i := by
    have h1 : (i 1).val < 240 := (i 1).isLt
    funext a
    match a with
    | ⟨0, _⟩ => exact Fin.ext (by show ((i 0).val * 240 + (i 1).val) / 240 = (i 0).val; omega)
    | ⟨1, _⟩ => exact Fin.ext (by show ((i 0).val * 240 + (i 1).val) % 240 = (i 1).val; omega)

theorem unflat_pix (a b : Fin 240) : unflat (ReferenceIdeal.Own.pix a b) = ix2 a b := by
  funext d
  match d with
  | ⟨0, _⟩ => exact Fin.ext (by show (a.val * 240 + b.val) / 240 = a.val; omega)
  | ⟨1, _⟩ => exact Fin.ext (by show (a.val * 240 + b.val) % 240 = b.val; omega)

theorem turn_at (w : FVec Ideal S56x240 .f32) (y : Fin 240) (i : Fin 56) :
    transpose S240x56 [1, 0] w transposes_S56x240_S240x56_1_0 (ix2 y i) = w (ix2 i y) := by
  pointwise
theorem turn_at' (w : FVec Ideal S240x56 .f32) (y : Fin 240) (i : Fin 56) :
    transpose S56x240 [1, 0] w transposes_S240x56_S56x240_1_0 (ix2 i y) = w (ix2 y i) := by
  pointwise

section
variable (x0 : (⟨ReferenceIdeal.S17x4x192x56x56, .f32⟩ : BufTy).Contents (Elt Ideal))
  (m : Vec Ideal S10x4x56x56 .f32) (r : Vec Ideal S240x56 .f32) (rt : Vec Ideal S56x240 .f32)
  (hm : ∀ (n : Fin 10) (b : Fin 4) (i j : Fin 56), m (ix4 n b i j) = ReferenceIdeal.Read.val_main_v119 (F := Ideal) x0 (ix4 n b i j))
  (hr : ∀ (y : Fin 240) (i : Fin 56), r (ix2 y i) = ReferenceIdeal.Read.val_main_v162 (F := Ideal) (ix2 i y))
  (hrt : ∀ (j : Fin 56) (x : Fin 240), rt (ix2 j x) = ReferenceIdeal.Read.val_main_v162 (F := Ideal) (ix2 j x))
  (g : Fin 5) (a b : Fin 240)

include hm hr hrt

theorem big_join (k : Fin 8) (q : Fin 57600) : big r rt (mapsOf m g k) (unflat q) = ReferenceIdeal.Own.u x0 g k q := by
  have e1 : (fun (i : Fin 56) (y : Fin 240) => r (ix2 y i)) = fun i y => ReferenceIdeal.Read.val_main_v162 (F := Ideal) (ix2 i y) :=
    funext fun i => funext fun y => hr y i
  have e2 : (fun (j : Fin 56) (x : Fin 240) => rt (ix2 j x)) = fun j x => ReferenceIdeal.Read.val_main_v205 (F := Ideal) (ix2 j x) :=
    funext fun j => funext fun x => by rw [hrt, twice]
  have e3 : (fun i j : Fin 56 => mapsOf m g k (ix4 0 0 i j)) = fun i j =>
      ReferenceIdeal.Read.val_main_v119 (F := Ideal) x0 (ix4 (ReferenceIdeal.Own.imgNo g k) (ReferenceIdeal.Own.batNo k) i j) :=
    funext fun i => funext fun j => by rw [mapsOf_at, hm]; rfl
  rw [ReferenceIdeal.Own.u_at, big, e1, e2, e3]
  rfl

theorem group_fuse (q : Fin 57600) : fuseGroup eps ((57600 : ℝ) : EReal) ((255 : ℝ) : EReal) (ReferenceIdeal.Own.u x0 g) q = groups m r rt g (unflat q) := by
  have e : ReferenceIdeal.Own.u x0 g = fun k q => big r rt (mapsOf m g k) (unflat q) :=
    funext fun k => funext fun q => (big_join x0 m r rt hm hr hrt g k q).symm
  rw [e, Rarity.fuseGroup_equiv unflat _ _ _ fun k => big r rt (mapsOf m g k), groups, ld_r, ld_rt, groupOf_at]

theorem groups_join : groups m r rt g (ix2 a b) = ReferenceIdeal.Read.val_main_v256 (F := Ideal) x0 (ix4 0 g a b) := by
  rw [ReferenceIdeal.Own.v256_at, group_fuse x0 m r rt hm hr hrt, unflat_pix]

theorem sal_join : salOf (groups m r rt) (ix2 a b) = ReferenceIdeal.Read.val_main_v282 (F := Ideal) x0 (ix3 0 a b) := by
  have e : (fun g => fuseGroup eps ((57600 : ℝ) : EReal) ((255 : ℝ) : EReal) (ReferenceIdeal.Own.u x0 g)) =
      fun g q => groups m r rt g (unflat q) :=
    funext fun g => funext fun q => group_fuse x0 m r rt hm hr hrt g q
  rw [ReferenceIdeal.Own.v282_at, e, Rarity.fuseLast_equiv unflat]
  dsimp only
  rw [unflat_pix, salOf_at]

end

end Cert.KernelIdeal.Own

end
-- ==== Proof.Masks.lean ====
/-
  The two masks of the rarity call, entry by entry.
-/
module

public import proofs.«01_k».proof.Proof.Gen.KernelIdeal.Launch

@[expose] public section

set_option maxRecDepth 16384

noncomputable section

namespace Cert.KernelIdeal.Own

open Idealize.ShloMosaic Cert.KernelIdeal

theorem lit0_words : ∀ r c : Fin 56, lit0t (r.val * 56 + c.val) =
    if decide (1 ≤ r.val ∧ r.val < 55 ∧ 1 ≤ c.val ∧ c.val < 55) then 0x3F800000#32 else 0x00000000#32 := by
  decide +kernel

theorem lit1_words : ∀ r c : Fin 56, lit1t (r.val * 56 + c.val) =
    if decide (2 ≤ r.val ∧ r.val < 54 ∧ 2 ≤ c.val ∧ c.val < 54) then 0x3F800000#32 else 0x00000000#32 := by
  decide +kernel

theorem join (p : Fin 3136) : p.val / 56 * 56 + p.val % 56 = p.val := by omega

/-- The first mask is one off a border of one pixel. -/
theorem lit0_at (p : Fin 3136) : lit0 p =
    if decide (1 ≤ p.val / 56 ∧ p.val / 56 < 55 ∧ 1 ≤ p.val % 56 ∧ p.val % 56 < 55) then 0x3F800000#32 else 0x00000000#32 := by
  have h := lit0_words ⟨p.val / 56, by omega⟩ ⟨p.val % 56, by omega⟩
  rw [join p] at h
  exact h

/-- The second mask is one off a border of two pixels. -/
theorem lit1_at (p : Fin 3136) : lit1 p =
    if decide (2 ≤ p.val / 56 ∧ p.val / 56 < 54 ∧ 2 ≤ p.val % 56 ∧ p.val % 56 < 54) then 0x3F800000#32 else 0x00000000#32 := by
  have h := lit1_words ⟨p.val / 56, by omega⟩ ⟨p.val % 56, by omega⟩
  rw [join p] at h
  exact h

end Cert.KernelIdeal.Own

end
-- ==== Proof.KernelRun.lean ====
/-
  The kernel's run, with the contents of its results.
-/
module

public import proofs.«01_k».proof.Proof.Gen.KernelIdeal.Frame

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Each result ends at the last boundary's contents, the argument as launched. -/
theorem run : θ_run defs (onTc (τ := τ) (main (F := F))) ⟨m, fun _ => 0, ρ⟩ (fun r => ∀ c : Dev nD,
      r.2.mem ((c.tc : Thread nD τ).loc main_v49) = W11 m ρ c (Proc.devRef .tc main_v49)
      ∧ r.2.mem ((c.tc : Thread nD τ).loc main_v50) = W11 m ρ c (Proc.devRef .tc main_v50)
      ∧ r.2.mem ((c.tc : Thread nD τ).loc main_arg0) = m ((c.tc : Thread nD τ).loc main_arg0)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz c => ⟨h c _ (mem_uc main_v49 (by decide)), h c _ (mem_uc main_v50 (by decide)),
      (h c _ (mem_uc main_arg0 (by decide))).trans (W11_main_arg0 m ρ c)⟩)

end Cert.KernelIdeal.Own

end
-- ==== Proof.Final.lean ====
/-
  The kernel's results are the reference's: the arrays carried from the argument to the results.
-/
module

public import proofs.«01_k».proof.Proof.Join
public import proofs.«01_k».proof.Proof.JoinFuse
public import proofs.«01_k».proof.Proof.Masks
public import proofs.«01_k».proof.Proof.KernelRun
public import proofs.«01_k».proof.Proof.Gen.ReferenceIdeal.Run

@[expose] public section

set_option backward.proofsInPublic true

noncomputable section

namespace Cert.KernelIdeal.Own

open Idealize.ShloMosaic Idealize.ShloMosaic.TcCoe Cert.KernelIdeal Cert.KernelIdeal.Gen

/-- The first mask … -/
def narrow : FVec Ideal S1x3136 .f32 := fun i => FloatOps.ofBits .f32 (lit0 (S1x3136.rowMajor i))
/-- … and the second. -/
def narrower : FVec Ideal S1x3136 .f32 := fun i => FloatOps.ofBits .f32 (lit1 (S1x3136.rowMajor i))

theorem row_of (p : Fin 3136) : S1x3136.rowMajor (ix2 0 p) = p := by
  apply Fin.ext
  rw [Shape.rowMajor_val_two]
  show 0 * 3136 + p.val = p.val
  omega

theorem narrow_at (p : Fin 3136) : narrow (ix2 0 p) = if ReferenceIdeal.Own.kept p then 1 else 0 := by
  rw [narrow, row_of, lit0_at, ReferenceIdeal.Own.kept, apply_ite (FloatOps.ofBits (F := Ideal) .f32), Ideal.ofBits_def, Ideal.ofBits_def,
    Ideal.ofBits_one_f32, Ideal.ofBits_zero_f32]
theorem narrower_at (p : Fin 3136) : narrower (ix2 0 p) = if ReferenceIdeal.Own.inside p then 1 else 0 := by
  rw [narrower, row_of, lit1_at, ReferenceIdeal.Own.inside, apply_ite (FloatOps.ofBits (F := Ideal) .f32), Ideal.ofBits_def, Ideal.ofBits_def,
    Ideal.ofBits_one_f32, Ideal.ofBits_zero_f32]

/-! ## The host's reshapes and constants, from any contents -/

section
variable (V : Valuation τ sig (Elt Ideal))

theorem host_x : (StableHlo.after hostOps0 V (Proc.devRef .tc main_v0) : FVec Ideal S17x4x192x3136 .f32) =
    shapeCast S17x4x192x3136 (V (Proc.devRef .tc main_arg0) : FVec Ideal S17x4x192x56x56 .f32) shapeCasts_S17x4x192x56x56_S17x4x192x3136 := by
  after_reads_simp
  rfl
theorem host_mask : (StableHlo.after hostOps0 V (Proc.devRef .tc main_cst) : FVec Ideal S1x3136 .f32) = narrow := by
  after_reads_simp
  rfl
theorem host_mask2 : (StableHlo.after hostOps0 V (Proc.devRef .tc main_cst_0) : FVec Ideal S1x3136 .f32) = narrower := by
  after_reads_simp
  rfl
theorem host_maps : (StableHlo.after hostOps1 V (Proc.devRef .tc main_v2) : FVec Ideal S10x4x56x56 .f32) =
    shapeCast S10x4x56x56 (V (Proc.devRef .tc main_v1) : FVec Ideal S10x4x3136 .f32) shapeCasts_S10x4x3136_S10x4x56x56 := by
  after_reads_simp
  rfl
theorem host_sal : (StableHlo.after hostOps2 V (Proc.devRef .tc main_v49) : FVec Ideal S1x240x240 .f32) =
    shapeCast S1x240x240 (V (Proc.devRef .tc main_v48_1) : FVec Ideal S240x240 .f32) shapeCasts_S240x240_S1x240x240 := by
  after_reads_simp
  rfl
theorem host_groups : (StableHlo.after hostOps2 V (Proc.devRef .tc main_v50) : FVec Ideal S1x5x240x240 .f32) =
    shapeCast S1x5x240x240 (V (Proc.devRef .tc main_v48_0) : FVec Ideal S5x240x240 .f32) shapeCasts_S5x240x240_S1x5x240x240 := by
  after_reads_simp
  rfl

end

/-! ## The reshapes, index by index -/

theorem layers_at (x : FVec Ideal S17x4x192x56x56 .f32) (l : Fin 17) (b : Fin 4) (k : Fin 192) (p : Fin 3136) :
    shapeCast S17x4x192x3136 x shapeCasts_S17x4x192x56x56_S17x4x192x3136 (ix4 l b k p) =
      x (ix5 l b k ⟨p.val / 56, by omega⟩ ⟨p.val % 56, by omega⟩) := by
  refine shapeCast_apply x _ _ _ ?_
  rw [Shape.rowMajor_val_five, Shape.rowMajor_val_four]
  show (((l.val * 4 + b.val) * 192 + k.val) * 56 + p.val / 56) * 56 + p.val % 56 = ((l.val * 4 + b.val) * 192 + k.val) * 3136 + p.val
  omega
theorem square_at (x : FVec Ideal S10x4x3136 .f32) (n : Fin 10) (b : Fin 4) (r c : Fin 56) :
    shapeCast S10x4x56x56 x shapeCasts_S10x4x3136_S10x4x56x56 (ix4 n b r c) = x (ix3 n b ⟨r.val * 56 + c.val, by omega⟩) := by
  refine shapeCast_apply x _ _ _ ?_
  rw [Shape.rowMajor_val_four, Shape.rowMajor_val_three]
  show (n.val * 4 + b.val) * 3136 + (r.val * 56 + c.val) = ((n.val * 4 + b.val) * 56 + r.val) * 56 + c.val
  omega
theorem groups_at (x : FVec Ideal S5x240x240 .f32) (g : Fin 5) (a b : Fin 240) :
    shapeCast S1x5x240x240 x shapeCasts_S5x240x240_S1x5x240x240 (ix4 0 g a b) = x (ix3 g a b) := by
  refine shapeCast_apply x _ _ _ ?_
  rw [Shape.rowMajor_val_four, Shape.rowMajor_val_three]
  show (g.val * 240 + a.val) * 240 + b.val = ((0 * 5 + g.val) * 240 + a.val) * 240 + b.val
  omega

/-! ## The carried arrays -/

section
variable (m : (ℓ : Loc nD τ sig) → Buf (Elt Ideal) ℓ) (ρ : Dev nD → PrngReg) (c : Dev nD)

/-- The argument. -/
abbrev argOf : (⟨ReferenceIdeal.S17x4x192x56x56, .f32⟩ : BufTy).Contents (Elt Ideal) := m ((c : Thread nD τ).loc main_arg0)

theorem x_at (l : Fin 17) (b : Fin 4) (k : Fin 192) (p : Fin 3136) :
    (V1 m ρ c main_v0 : FVec Ideal S17x4x192x3136 .f32) (ix4 l b k p) =
      argOf m c (ix5 l b k ⟨p.val / 56, by omega⟩ ⟨p.val % 56, by omega⟩) := by
  exact (congrFun (host_x (W0 m ρ c)) (ix4 l b k p)).trans (layers_at _ l b k p)
theorem mask_at (p : Fin 3136) : (V1 m ρ c main_cst : FVec Ideal S1x3136 .f32) (ix2 0 p) =
    if ReferenceIdeal.Own.kept p then (1 : EReal) else (0 : EReal) :=
  (congrFun (host_mask (W0 m ρ c)) (ix2 0 p)).trans (narrow_at p)
theorem mask2_at (p : Fin 3136) : (V1 m ρ c main_cst_0 : FVec Ideal S1x3136 .f32) (ix2 0 p) =
    if ReferenceIdeal.Own.inside p then (1 : EReal) else (0 : EReal) :=
  (congrFun (host_mask2 (W0 m ρ c)) (ix2 0 p)).trans (narrower_at p)

theorem W2_maps : (W2 m ρ c (Proc.devRef .tc main_v1) : FVec Ideal S10x4x3136 .f32) =
    maps (V1 m ρ c main_v0) (V1 m ρ c main_cst) (V1 m ρ c main_cst_0) :=
  (W2_arr m ρ c 3).trans (final_maps (V1 m ρ) c)

theorem W9_maps : (W9 m ρ c (Proc.devRef .tc main_v2) : FVec Ideal S10x4x56x56 .f32) = W3 m ρ c (Proc.devRef .tc main_v2) :=
  (W9_of m ρ c main_v2 (by decide)).trans <| (W8_of m ρ c main_v2 (by decide)).trans <| (W7_of m ρ c main_v2 (by decide)).trans <|
    (W6_of m ρ c main_v2 (by decide)).trans <| (W5_of m ρ c main_v2 (by decide)).trans (W4_of m ρ c main_v2 (by decide))

theorem map_at (n : Fin 10) (b : Fin 4) (i j : Fin 56) : (V9 m ρ c main_v2 : FVec Ideal S10x4x56x56 .f32) (ix4 n b i j) =
    ReferenceIdeal.Read.val_main_v119 (F := Ideal) (argOf m c) (ix4 n b i j) := by
  rw [show (V9 m ρ c main_v2 : FVec Ideal S10x4x56x56 .f32) = _ from (W9_maps m ρ c).trans (host_maps (W2 m ρ c)), square_at, W2_maps]
  exact maps_join (argOf m c) _ _ _ (x_at m ρ c) (mask_at m ρ c) (mask2_at m ρ c) n b i j

theorem r_at (y : Fin 240) (i : Fin 56) : (V9 m ρ c main_v46 : FVec Ideal S240x56 .f32) (ix2 y i) =
    ReferenceIdeal.Read.val_main_v162 (F := Ideal) (ix2 i y) := by
  rw [show (V9 m ρ c main_v46 : FVec Ideal S240x56 .f32) = _ from W9_weightsT m ρ c]
  exact turn_at _ y i
theorem rt_at (j : Fin 56) (x : Fin 240) : (V9 m ρ c main_v47 : FVec Ideal S56x240 .f32) (ix2 j x) =
    ReferenceIdeal.Read.val_main_v162 (F := Ideal) (ix2 j x) := by
  rw [show (V9 m ρ c main_v47 : FVec Ideal S56x240 .f32) = _ from W9_weights m ρ c]
  exact (turn_at' _ x j).trans (turn_at _ x j)

theorem W10_groups : (W10 m ρ c (Proc.devRef .tc main_v48_0) : FVec Ideal S5x240x240 .f32) =
    groupArr (V9 m ρ c main_v2) (V9 m ρ c main_v46) (V9 m ρ c main_v47) :=
  (W10_arr m ρ c 3).trans (final_groups (V9 m ρ) c)
theorem W10_sal : (W10 m ρ c (Proc.devRef .tc main_v48_1) : FVec Ideal S240x240 .f32) =
    salOf (groups (V9 m ρ c main_v2) (V9 m ρ c main_v46) (V9 m ρ c main_v47)) :=
  (W10_arr m ρ c 4).trans (final_sal (V9 m ρ) c)

/-- The first result. -/
theorem result_sal : (W11 m ρ c (Proc.devRef .tc main_v49) : FVec Ideal S1x240x240 .f32) =
    ReferenceIdeal.Read.val_main_v282 (F := Ideal) (argOf m c) := by
  rw [show (W11 m ρ c (Proc.devRef .tc main_v49) : FVec Ideal S1x240x240 .f32) = _ from host_sal (W10 m ρ c), W10_sal]
  funext y
  have h0 : (y 0).val < 1 := (y 0).isLt
  have e : y = ix3 0 (y 1) (y 2) := by
    funext a
    match a with
    | ⟨0, _⟩ => exact Fin.ext (by show (y 0).val = 0; omega)
    | ⟨1, _⟩ => rfl
    | ⟨2, _⟩ => rfl
  exact (slice_at _ y).trans ((sal_join (argOf m c) _ _ _ (map_at m ρ c) (r_at m ρ c) (rt_at m ρ c) (y 1) (y 2)).trans
    (congrArg (ReferenceIdeal.Read.val_main_v282 (F := Ideal) (argOf m c)) e.symm))

/-- The second result. -/
theorem result_groups : (W11 m ρ c (Proc.devRef .tc main_v50) : FVec Ideal S1x5x240x240 .f32) =
    ReferenceIdeal.Read.val_main_v256 (F := Ideal) (argOf m c) := by
  rw [show (W11 m ρ c (Proc.devRef .tc main_v50) : FVec Ideal S1x5x240x240 .f32) = _ from host_groups (W10 m ρ c), W10_groups]
  funext y
  have h0 : (y 0).val < 1 := (y 0).isLt
  have e : y = ix4 0 (y 1) (y 2) (y 3) := by
    funext a
    match a with
    | ⟨0, _⟩ => exact Fin.ext (by show (y 0).val = 0; omega)
    | ⟨1, _⟩ => rfl
    | ⟨2, _⟩ => rfl
    | ⟨3, _⟩ => rfl
  rw [e]
  exact (groups_at _ (y 1) (y 2) (y 3)).trans
    (groups_join (argOf m c) _ _ _ (map_at m ρ c) (r_at m ρ c) (rt_at m ρ c) (y 1) (y 2) (y 3))

end

end Cert.KernelIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.RefFrame
public import proofs.«01_k».proof.Proof.Final
public import Idealize.ShloMosaic.Adequacy
public import Idealize.ShloMosaic.Init

@[expose] public section

noncomputable section

namespace Cert.Proof

open Idealize.ShloMosaic Idealize.SL.Sem Cert.Kernel

/-- The reference's run: its results from its argument. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread Cert.ReferenceIdeal.nD Cert.ReferenceIdeal.τ).loc Cert.ReferenceIdeal.main_v282) =
        Cert.ReferenceIdeal.Read.val_main_v282 (F := Ideal) (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_v256) =
        Cert.ReferenceIdeal.Read.val_main_v256 (F := Ideal) (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_arg0) =
        m ((c.tc : Thread Cert.ReferenceIdeal.nD Cert.ReferenceIdeal.τ).loc Cert.ReferenceIdeal.main_arg0) :=
  (θ_run Cert.ReferenceIdeal.defs _ _).mono
    (fun _ h c => ⟨(h c).1.trans (Cert.ReferenceIdeal.Read.val_main_v282_eq (StableHlo.launchContents m c)),
      (h c).2.1.trans (Cert.ReferenceIdeal.Read.val_main_v256_eq (StableHlo.launchContents m c)), (h c).2.2⟩)
    (Cert.ReferenceIdeal.Value.run m ρ)

/-- At the extended reals both programs end with the same results. -/
theorem algebraic : Cert.algebraic_KernelIdeal_ReferenceIdeal := fun m g m' g' _ harg =>
  ⟨fun c => Cert.KernelIdeal.Gen.W11 m g c (Proc.devRef .tc Cert.KernelIdeal.main_v49),
    fun c => Cert.KernelIdeal.Gen.W11 m g c (Proc.devRef .tc Cert.KernelIdeal.main_v50),
    Cert.KernelIdeal.Own.run m g,
    (θ_run Cert.ReferenceIdeal.defs _ _).mono
      (fun _ h c => ⟨(h c).1.trans ((congrArg (Cert.ReferenceIdeal.Read.val_main_v282 (F := Ideal)) (harg c)).trans
          (Cert.KernelIdeal.Own.result_sal m g c).symm),
        (h c).2.1.trans ((congrArg (Cert.ReferenceIdeal.Read.val_main_v256 (F := Ideal)) (harg c)).trans
          (Cert.KernelIdeal.Own.result_groups m g c).symm), (h c).2.2⟩)
      (reference_run m' g')⟩

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Own.quiescent m ρ,
  ⟨IdealRules.named_const.statement Cert.KernelIdeal.κ "big" .f32 0x7F61B1E6#32 ⊤ rfl,
  IdealRules.named_const.statement Cert.KernelIdeal.κ "inv_pix" .f32 0x39A72F05#32 ((1 / 3136 : ℝ) : EReal) rfl,
  IdealRules.named_const.statement Cert.KernelIdeal.κ "inv_out" .f32 0x3791A2B4#32 ((1 / 57600 : ℝ) : EReal) rfl⟩,
  algebraic⟩

end Cert.Proof

end
